-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)) →
    ∃ (v0 : (c : Dev Cert.Kernel.nD) → Buf (Elt Bits) ((c.tc : Thread Cert.Kernel.nD Cert.Kernel.τ).loc Cert.Kernel.main_v5)) (v1 : (c : Dev Cert.Kernel.nD) → Buf (Elt Bits) ((c.tc : Thread Cert.Kernel.nD Cert.Kernel.τ).loc Cert.Kernel.main_v4_1)) (v2 : (c : Dev Cert.Kernel.nD) → Buf (Elt Bits) ((c.tc : Thread Cert.Kernel.nD Cert.Kernel.τ).loc Cert.Kernel.main_v4_2)) (v3 : (c : Dev Cert.Kernel.nD) → Buf (Elt Bits) ((c.tc : Thread Cert.Kernel.nD Cert.Kernel.τ).loc Cert.Kernel.main_v6)) (v4 : (c : Dev Cert.Kernel.nD) → Buf (Elt Bits) ((c.tc : Thread Cert.Kernel.nD Cert.Kernel.τ).loc Cert.Kernel.main_c)) (v5 : (c : Dev Cert.Kernel.nD) → Buf (Elt Bits) ((c.tc : Thread Cert.Kernel.nD Cert.Kernel.τ).loc Cert.Kernel.main_c_0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v4_1) = v1 c
          ∧ r.2.mem ((c.tc : Thread Cert.Kernel.nD Cert.Kernel.τ).loc Cert.Kernel.main_v4_2) = v2 c
          ∧ r.2.mem ((c.tc : Thread Cert.Kernel.nD Cert.Kernel.τ).loc Cert.Kernel.main_v6) = v3 c
          ∧ r.2.mem ((c.tc : Thread Cert.Kernel.nD Cert.Kernel.τ).loc Cert.Kernel.main_c) = v4 c
          ∧ r.2.mem ((c.tc : Thread Cert.Kernel.nD Cert.Kernel.τ).loc Cert.Kernel.main_c_0) = v5 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_v17) = v1 c
          ∧ r.2.mem ((c.tc : Thread Cert.Reference.nD Cert.Reference.τ).loc Cert.Reference.main_v24) = v2 c
          ∧ r.2.mem ((c.tc : Thread Cert.Reference.nD Cert.Reference.τ).loc Cert.Reference.main_v31) = v3 c
          ∧ r.2.mem ((c.tc : Thread Cert.Reference.nD Cert.Reference.τ).loc Cert.Reference.main_c_9) = v4 c
          ∧ r.2.mem ((c.tc : Thread Cert.Reference.nD Cert.Reference.τ).loc Cert.Reference.main_c_10) = v5 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S16384x128 : Shape := ⟨2, ![16384, 128]⟩
abbrev S16384 : Shape := ⟨1, ![16384]⟩
abbrev S65536x128 : Shape := ⟨2, ![65536, 128]⟩
abbrev S65536 : Shape := ⟨1, ![65536]⟩
abbrev S2097152 : Shape := ⟨1, ![2097152]⟩
abbrev S8388608 : Shape := ⟨1, ![8388608]⟩
abbrev S49152 : Shape := ⟨1, ![49152]⟩
abbrev S4 : Shape := ⟨1, ![4]⟩
abbrev S43392 : Shape := ⟨1, ![43392]⟩
abbrev S1 : Shape := ⟨1, ![1]⟩
abbrev S_ : Shape := ⟨0, ![]⟩
abbrev S22144 : Shape := ⟨1, ![22144]⟩
abbrev S1536 : Shape := ⟨1, ![1536]⟩
abbrev S904 : Shape := ⟨1, ![904]⟩
abbrev S1384 : Shape := ⟨1, ![1384]⟩

abbrev nBuf : Table → Nat
  | .hbm => 20
  | .local .scVector .vmem => 2
  | _ => 0

abbrev bufTy : (tb : Table) → Fin (nBuf tb) → BufTy
  | .hbm, ⟨0, _⟩ => ⟨S16384x128, .f32⟩
  | .hbm, ⟨1, _⟩ => ⟨S16384, .f32⟩
  | .hbm, ⟨2, _⟩ => ⟨S16384, .f32⟩
  | .hbm, ⟨3, _⟩ => ⟨S16384, .i32⟩
  | .hbm, ⟨4, _⟩ => ⟨S65536x128, .f32⟩
  | .hbm, ⟨5, _⟩ => ⟨S65536, .f32⟩
  | .hbm, ⟨6, _⟩ => ⟨S65536, .f32⟩
  | .hbm, ⟨7, _⟩ => ⟨S65536, .i32⟩
  | .hbm, ⟨8, _⟩ => ⟨S2097152, .f32⟩
  | .hbm, ⟨9, _⟩ => ⟨S8388608, .f32⟩
  | .hbm, ⟨10, _⟩ => ⟨S16384, .f32⟩
  | .hbm, ⟨11, _⟩ => ⟨S65536, .f32⟩
  | .hbm, ⟨12, _⟩ => ⟨S8388608, .f32⟩
  | .hbm, ⟨13, _⟩ => ⟨S65536, .f32⟩
  | .hbm, ⟨14, _⟩ => ⟨S65536, .f32⟩
  | .hbm, ⟨15, _⟩ => ⟨S65536, .f32⟩
  | .hbm, ⟨16, _⟩ => ⟨S65536x128, .f32⟩
  | .hbm, ⟨17, _⟩ => ⟨S65536, .i32⟩
  | .hbm, ⟨18, _⟩ => ⟨S_, .i32⟩
  | .hbm, ⟨19, _⟩ => ⟨S_, .i32⟩
  | .local .scVector .vmem, ⟨0, _⟩ => ⟨S49152, .f32⟩
  | .local .scVector .vmem, ⟨1, _⟩ => ⟨S49152, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_c_0 : Ref sig .tc := ⟨.hbm, 19, rfl⟩
abbrev main_v0_scv : Ref sig .scVector := ⟨.hbm, 8, rfl⟩
abbrev main_arg1_scv : Ref sig .scVector := ⟨.hbm, 1, rfl⟩
abbrev main_arg2_scv : Ref sig .scVector := ⟨.hbm, 2, rfl⟩
abbrev main_v2_scv : Ref sig .scVector := ⟨.hbm, 10, rfl⟩
abbrev main_v1_scv : Ref sig .scVector := ⟨.hbm, 9, rfl⟩
abbrev main_arg5_scv : Ref sig .scVector := ⟨.hbm, 5, rfl⟩
abbrev main_arg6_scv : Ref sig .scVector := ⟨.hbm, 6, rfl⟩
abbrev main_v3_scv : Ref sig .scVector := ⟨.hbm, 11, rfl⟩
abbrev main_v4_0_scv : Ref sig .scVector := ⟨.hbm, 12, rfl⟩
abbrev main_v4_1_scv : Ref sig .scVector := ⟨.hbm, 13, rfl⟩
abbrev main_v4_2_scv : Ref sig .scVector := ⟨.hbm, 14, rfl⟩
abbrev main_v4_3_scv : Ref sig .scVector := ⟨.hbm, 15, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 1 → Nat :=
  let c708608_i32 : BitVec 32 := 708608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c43392_i32_0 : BitVec 32 := 43392#32
  let v4 : BitVec 32 := Scalar.muli v1 c43392_i32_0
  let v5 : BitVec 32 := Scalar.addi c708608_i32 v4
  ![v5.toNat]
def k0_off2 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c43392_i32 : BitVec 32 := 43392#32
  let v2 : BitVec 32 := Scalar.muli v1 c43392_i32
  let v3 : BitVec 32 := Scalar.addi c0_i32 v2
  ![v3.toNat]
def k0_off3 (i : grid0.Coords) (c0_i32_1 : BitVec 32) : Fin 1 → Nat :=
  let c1388544_i32 : BitVec 32 := 1388544#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c196608_i32 : BitVec 32 := 196608#32
  let v6 : BitVec 32 := Scalar.muli v1 c196608_i32
  let v7 : BitVec 32 := Scalar.addi c1388544_i32 v6
  let v8 : BitVec 32 := Scalar.addi v7 c0_i32_1
  ![v8.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22144_i32_8 : BitVec 32 := 22144#32
  let v20 : BitVec 32 := Scalar.muli v1 c22144_i32_8
  ![v20.toNat]
def k0_off5 (i : grid0.Coords) : Fin 1 → Nat :=
  let c7680000_i32 : BitVec 32 := 7680000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c22144_i32 : BitVec 32 := 22144#32
  let v18 : BitVec 32 := Scalar.muli v1 c22144_i32
  let v19 : BitVec 32 := Scalar.addi c7680000_i32 v18
  ![v19.toNat]
def k0_off6 (i : grid0.Coords) : Fin 1 → Nat :=
  let c10848_i32 : BitVec 32 := 10848#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v21 : BitVec 32 := Scalar.muli v1 c1536_i32
  let v22 : BitVec 32 := Scalar.addi c10848_i32 v21
  ![v22.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v243 : BitVec 1 := Scalar.cmpi .slt v1 c12_i32
  let v244 : BitVec 32 := Scalar.extui v243
  let c0_i32_119 : BitVec 32 := 0#32
  let v245 : BitVec 1 := Scalar.cmpi .ne v244 c0_i32_119
  v245

def k0_off7 (i : grid0.Coords) : Fin 1 → Nat :=
  let c5536_i32 : BitVec 32 := 5536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c904_i32 : BitVec 32 := 904#32
  let v251 : BitVec 32 := Scalar.muli v1 c904_i32
  let v252 : BitVec 32 := Scalar.addi c5536_i32 v251
  ![v252.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c904_i32_122 : BitVec 32 := 904#32
  let v253 : BitVec 32 := Scalar.muli v1 c904_i32_122
  ![v253.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_120 : BitVec 32 := 12#32
  let v246 : BitVec 1 := Scalar.cmpi .sge v1 c12_i32_120
  let c16_i32 : BitVec 32 := 16#32
  let v247 : BitVec 1 := Scalar.cmpi .slt v1 c16_i32
  let v248 : BitVec 1 := Scalar.andi v246 v247
  let v249 : BitVec 32 := Scalar.extui v248
  let c0_i32_121 : BitVec 32 := 0#32
  let v250 : BitVec 1 := Scalar.cmpi .ne v249 c0_i32_121
  v250

def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_122 : BitVec 32 := 12#32
  let v251 : BitVec 32 := Scalar.subi v1 c12_i32_122
  let c1384_i32 : BitVec 32 := 1384#32
  let v252 : BitVec 32 := Scalar.muli v251 c1384_i32
  ![v252.toNat]
def k0_off10 (i : grid0.Coords) : Fin 1 → Nat :=
  let c60000_i32 : BitVec 32 := 60000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_122 : BitVec 32 := 12#32
  let v251 : BitVec 32 := Scalar.subi v1 c12_i32_122
  let c1384_i32_123 : BitVec 32 := 1384#32
  let v253 : BitVec 32 := Scalar.muli v251 c1384_i32_123
  let v254 : BitVec 32 := Scalar.addi c60000_i32 v253
  ![v254.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x128 : Shape := ⟨2, ![16384, 128]⟩
abbrev S16384 : Shape := ⟨1, ![16384]⟩
abbrev S65536x128 : Shape := ⟨2, ![65536, 128]⟩
abbrev S65536 : Shape := ⟨1, ![65536]⟩
abbrev S_ : Shape := ⟨0, ![]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .f32⟩
  | .hbm, ⟨2, _⟩ => ⟨S16384, .f32⟩
  | .hbm, ⟨3, _⟩ => ⟨S16384, .i32⟩
  | .hbm, ⟨4, _⟩ => ⟨S65536x128, .f32⟩
  | .hbm, ⟨5, _⟩ => ⟨S65536, .f32⟩
  | .hbm, ⟨6, _⟩ => ⟨S65536, .f32⟩
  | .hbm, ⟨7, _⟩ => ⟨S65536, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S_, .i1⟩
  | .hbm, ⟨28, _⟩ => ⟨S16384, .i1⟩
  | .hbm, ⟨29, _⟩ => ⟨S16384, .i1⟩
  | .hbm, ⟨30, _⟩ => ⟨S16384, .i1⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S65536x128, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S65536, .f32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S65536, .f32⟩
  | .hbm, ⟨61, _⟩ => ⟨S_, .i32⟩
  | .hbm, ⟨62, _⟩ => ⟨S16384, .i32⟩
  | .hbm, ⟨63, _⟩ => ⟨S16384, .i1⟩
  | .hbm, ⟨64, _⟩ => ⟨S_, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S16384x1, .i32⟩
  | .hbm, ⟨69, _⟩ => ⟨S65536, .i32⟩
  | .hbm, ⟨70, _⟩ => ⟨S_, .i32⟩
  | .hbm, ⟨71, _⟩ => ⟨S_, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v3 : Ref sig .tc := ⟨.hbm, 33, rfl⟩
abbrev main_c_1 : Ref sig .tc := ⟨.hbm, 34, rfl⟩
abbrev main_v4 : Ref sig .tc := ⟨.hbm, 35, rfl⟩
abbrev main_v5 : Ref sig .tc := ⟨.hbm, 36, rfl⟩
abbrev main_c_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_c_3 : Ref sig .tc := ⟨.hbm, 43, rfl⟩
abbrev main_v11 : Ref sig .tc := ⟨.hbm, 44, rfl⟩
abbrev main_v12 : Ref sig .tc := ⟨.hbm, 45, rfl⟩
abbrev main_c_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_5 : Ref sig .tc := ⟨.hbm, 52, rfl⟩
abbrev main_v18 : Ref sig .tc := ⟨.hbm, 53, rfl⟩
abbrev main_v19 : Ref sig .tc := ⟨.hbm, 54, rfl⟩
abbrev main_c_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_7 : Ref sig .tc := ⟨.hbm, 61, rfl⟩
abbrev main_v25 : Ref sig .tc := ⟨.hbm, 62, rfl⟩
abbrev main_v26 : Ref sig .tc := ⟨.hbm, 63, rfl⟩
abbrev main_c_8 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_c_10 : Ref sig .tc := ⟨.hbm, 71, rfl⟩

abbrev nD : Nat := 1
abbrev τ : Topo := Topo.v7x

variable {F : FTy → Type} [FloatOps F]
-- ==== Proof.Values.lean ====
/-
  The values of the enqueue. A queue of `N` places takes a block of `n` new entries, written from place `hi` on and
  wrapping round to the front: places from `hi` on take the block's first entries, the first `lo` places take its last,
  and the places between keep what they held (`ring`). Every copy of the kernel moves one segment of a one-axis array; here
  are those segments as sets of indices (`seg`) and what a segment of `ring` reads, by the part of the queue it lies in.
-/
module

public import proofs.«01_k».proof.Defs
public import Idealize.ShloMosaic.Lib.Pipeline.ValueKit.Geometry
public import Idealize.ShloMosaic.Lib.Pipeline.Value
public import Idealize.ShloMosaic.Lib.Tactic

@[expose] public section

noncomputable section

namespace Cert.Proof.Enqueue

open Idealize.ShloMosaic
open Idealize.SL Idealize.SL.RA Idealize.SL.BI
open scoped Idealize.SL.BI

/-- The shape of a one-axis array of `n` elements. -/
abbrev Flat (n : ℕ) : Shape := ⟨1, ![n]⟩

/-- Index `k` of a one-axis array. -/
def ix {n : ℕ} (k : ℕ) (h : k < n) : (Flat n).Idx := fun | 0 => ⟨k, h⟩

/-- Two indices of a one-axis array with the same position are the same. -/
theorem flat_ext {n : ℕ} {i j : (Flat n).Idx} (h : (i 0).val = (j 0).val) : i = j :=
  funext fun | 0 => Fin.ext h

theorem flat_lt {n : ℕ} (i : (Flat n).Idx) : (i 0).val < n := (i 0).isLt

/-- Entry `k` of a one-axis array, or `y` past its end. -/
def pick {n : ℕ} {α : Type} (f : (Flat n).Idx → α) (k : ℕ) (y : α) : α := if h : k < n then f (ix k h) else y

theorem pick_of_eq {n : ℕ} {α : Type} (f : (Flat n).Idx → α) {k : ℕ} (y : α) (i : (Flat n).Idx) (h : (i 0).val = k) :
    pick f k y = f i := by
  subst h; unfold pick; rw [dif_pos (flat_lt i)]; exact congrArg f (flat_ext rfl)

/-- The queue after the enqueue: its first `lo` places hold the new entries from `sh` on, its places from `hi` on the new
    entries from the first on, and the places between what they held before. -/
def ring {n N : ℕ} {α : Type} (lo hi sh : ℕ) (new : (Flat n).Idx → α) (old : (Flat N).Idx → α) : (Flat N).Idx → α := fun j =>
  if (j 0).val < lo then pick new ((j 0).val + sh) (old j) else if hi ≤ (j 0).val then pick new ((j 0).val - hi) (old j) else old j

section Ring

variable {n N : ℕ} {α : Type} {lo hi sh : ℕ} (new : (Flat n).Idx → α) (old : (Flat N).Idx → α)
variable (os od size : Fin 1 → ℕ)
  (hs : ∀ a, os a + size a ≤ (Flat n).size a) (hd : ∀ a, od a + size a ≤ (Flat N).size a) (ho : ∀ a, os a + size a ≤ (Flat N).size a)

/-- A segment of the queue inside its first `lo` places reads the new entries `sh` further on. -/
theorem ring_front (h : od 0 + size 0 ≤ lo) (e : os 0 = od 0 + sh) (x : Shape.Idx ⟨1, size⟩) :
    new ((Rect.unit (s := Flat n) os size hs).emb x) = ring lo hi sh new old ((Rect.unit (s := Flat N) od size hd).emb x) := by
  have h1 := ValueKit.rect_emb_unit_val (s := Flat n) os size hs x 0
  have h2 := ValueKit.rect_emb_unit_val (s := Flat N) od size hd x 0
  have hx : (x 0).val < size 0 := (x 0).isLt
  unfold ring
  rw [if_pos (by omega), pick_of_eq new _ ((Rect.unit (s := Flat n) os size hs).emb x) (by omega)]

/-- A segment of the queue from place `hi` on reads the new entries from the first on. -/
theorem ring_back (hl : lo ≤ hi) (h : od 0 = hi + os 0) (x : Shape.Idx ⟨1, size⟩) :
    new ((Rect.unit (s := Flat n) os size hs).emb x) = ring lo hi sh new old ((Rect.unit (s := Flat N) od size hd).emb x) := by
  have h1 := ValueKit.rect_emb_unit_val (s := Flat n) os size hs x 0
  have h2 := ValueKit.rect_emb_unit_val (s := Flat N) od size hd x 0
  unfold ring
  rw [if_neg (by omega), if_pos (by omega), pick_of_eq new _ ((Rect.unit (s := Flat n) os size hs).emb x) (by omega)]

/-- A segment of the queue between its first `lo` places and place `hi` reads what the queue held. -/
theorem ring_middle (h : lo ≤ os 0) (h' : os 0 + size 0 ≤ hi) (x : Shape.Idx ⟨1, size⟩) :
    old ((Rect.unit (s := Flat N) os size ho).emb x) = ring lo hi sh new old ((Rect.unit (s := Flat N) os size ho).emb x) := by
  have h1 := ValueKit.rect_emb_unit_val (s := Flat N) os size ho x 0
  have hx : (x 0).val < size 0 := (x 0).isLt
  unfold ring
  rw [if_neg (by omega), if_neg (by omega)]

end Ring

/-! ## Segments -/

/-- The indices of a one-axis array from `lo` on, `len` of them. -/
def seg {n : ℕ} (lo len : ℕ) : Finset (Flat n).Idx := Finset.univ.filter fun j => lo ≤ (j 0).val ∧ (j 0).val < lo + len

theorem mem_seg {n : ℕ} {lo len : ℕ} {j : (Flat n).Idx} : j ∈ (seg lo len : Finset (Flat n).Idx) ↔ lo ≤ (j 0).val ∧ (j 0).val < lo + len := by
  simp [seg]

/-- Segments that follow one another share no index. -/
theorem seg_disjoint {n : ℕ} {a b c e : ℕ} (h : a + b ≤ c ∨ c + e ≤ a) : Disjoint (seg a b : Finset (Flat n).Idx) (seg c e) :=
  Finset.disjoint_left.mpr fun j h1 h2 => by rw [mem_seg] at h1 h2; omega

/-- A unit-stride rectangle of a one-axis array is a segment. -/
theorem set_unit {n : ℕ} (off size : Fin 1 → ℕ) (inb : ∀ a, off a + size a ≤ (Flat n).size a) :
    (Rect.unit (s := Flat n) off size inb).set = seg (off 0) (size 0) := by
  ext j
  rw [mem_seg, LoadRect.mem_set]
  constructor
  · intro h
    obtain ⟨x, hx, e⟩ := h 0
    have hx' : x < size 0 := hx
    have e' : (j 0).val = off 0 + 1 * x := e
    omega
  · rintro ⟨h1, h2⟩ a
    match a with
    | 0 => exact ⟨(j 0).val - off 0, show _ < size 0 by omega, show (j 0).val = off 0 + 1 * ((j 0).val - off 0) by omega⟩

/-! ## Landed contents -/

/-- A buffer written through a view with what the view reads of `G` holds `G` on the view's elements. -/
theorem write_agrees {sig : RefSig} {κ : Kind} {sp : Space} {S : Shape} {e : EltTy} {Val : EltTy → Type} (v : View sig κ sp S e)
    (f G : v.ty.Contents Val) (w : S.Idx → Val e) (h : ∀ x, w x = v.read Val G x) {i : v.ty.Idx} (hi : i ∈ v.set) :
    v.write Val f w Finset.univ i = G i := by
  obtain ⟨y, rfl⟩ := View.exists_emb_of_mem_set v hi
  rw [View.write_emb_of_mem _ _ (Finset.mem_univ y), h, View.read_apply, cast_cast, cast_eq]

end Cert.Proof.Enqueue

end
-- ==== Proof.Setup.lean ====
/-
  The set-up of the enqueue's proof: the program as the launch theorem sees it, the ghost algebra, the arrays and the
  pieces of them each of the thirty-two tiles reads and writes, and what the one SparseCore call's handshakes carry.

  Tile `w = 2·s + c` (subcore `s` of core `c`) reads the new block and the queue as they were, and writes of each array
  of the new queue: its segment of the front, of the middle and of the back of the flat `z` (the middle in four chunks);
  its segment of the middle of each of the three flat vectors; and, of those vectors, tile `w < 12` a segment of the front
  and tile `12 ≤ w < 16` a segment of the back.
-/
module

public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.Kernel
public import proofs.«01_k».proof.Proof.Gen.Kernel.Skeleton

@[expose] public section

noncomputable section

namespace Cert.Proof.Enqueue

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

section Program

variable [BitOps F]

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Program

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore names them and as a tile does -/

/-- The flat new rows, the three vectors of the new block, and the queue's four arrays before the enqueue. -/
abbrev znLoc (d : Dev nD) : Loc nD τ sig := (SparseCore.T d).loc main_v0
abbrev tnLoc (d : Dev nD) : Loc nD τ sig := (SparseCore.T d).loc main_arg1
abbrev enLoc (d : Dev nD) : Loc nD τ sig := (SparseCore.T d).loc main_arg2
abbrev bnLoc (d : Dev nD) : Loc nD τ sig := (SparseCore.T d).loc main_v2
abbrev zbLoc (d : Dev nD) : Loc nD τ sig := (SparseCore.T d).loc main_v1
abbrev tbLoc (d : Dev nD) : Loc nD τ sig := (SparseCore.T d).loc main_arg5
abbrev ebLoc (d : Dev nD) : Loc nD τ sig := (SparseCore.T d).loc main_arg6
abbrev bbLoc (d : Dev nD) : Loc nD τ sig := (SparseCore.T d).loc main_v3
/-- The queue's four arrays after it. -/
abbrev zoLoc (d : Dev nD) : Loc nD τ sig := (SparseCore.T d).loc main_v4_0
abbrev toLoc (d : Dev nD) : Loc nD τ sig := (SparseCore.T d).loc main_v4_1
abbrev eoLoc (d : Dev nD) : Loc nD τ sig := (SparseCore.T d).loc main_v4_2
abbrev boLoc (d : Dev nD) : Loc nD τ sig := (SparseCore.T d).loc main_v4_3

/-! ## Tiles -/

abbrev cV (L : grid0.Coords) : Fin τ.nSC := (L 0).castLE hcore0
abbrev jV (L : grid0.Coords) : Fin τ.nSub := (L 1).castLE hsub0

theorem core_lt (L : grid0.Coords) : (L 0).val < 2 := (L 0).isLt
theorem sub_lt (L : grid0.Coords) : (L 1).val < 16 := (L 1).isLt

/-- The tile number of core `c`, subcore `s`. -/
def tileOf (c : Fin 2) (s : Fin 16) : Fin 32 := ⟨2 * s.val + c.val, by omega⟩

/-- The tile number at grid point `L`. -/
def tileL (L : grid0.Coords) : Fin 32 := ⟨2 * (L 1).val + (L 0).val, by have := core_lt L; have := sub_lt L; omega⟩

theorem tileL_val (L : grid0.Coords) : (tileL L).val = 2 * (L 1).val + (L 0).val := rfl

/-- The first condition of the body: the tile is one of the first twelve. -/
theorem cond1_iff (L : grid0.Coords) : k0_cond1 L = 1#1 ↔ (tileL L).val < 12 := by
  revert L; decide +kernel

/-- The second condition of the body: the tile is one of the four after those. -/
theorem cond2_iff (L : grid0.Coords) : k0_cond2 L = 1#1 ↔ 12 ≤ (tileL L).val ∧ (tileL L).val < 16 := by
  revert L; decide +kernel

/-- Where in the new block the tiles of the second condition read. -/
theorem off9_val (L : grid0.Coords) : k0_cond2 L = 1#1 → k0_off9 L 0 + 16608 = 1384 * (tileL L).val := by
  revert L; decide +kernel

/-! ## The pieces of the outputs -/

/-- Tile `w`'s six segments of the flat `z`: where each starts and how long it is. -/
def zStart (w : Fin 32) : Fin 6 → ℕ
  | 0 => 43392 * w.val
  | 1 => 1388544 + 196608 * w.val
  | 2 => 1388544 + 196608 * w.val + 49152
  | 3 => 1388544 + 196608 * w.val + 98304
  | 4 => 1388544 + 196608 * w.val + 147456
  | 5 => 7680000 + 22144 * w.val
def zLen : Fin 6 → ℕ
  | 0 => 43392
  | 1 | 2 | 3 | 4 => 49152
  | 5 => 22144

/-- Tile `w`'s piece `p` of the flat `z`. -/
abbrev zSeg (w : Fin 32) (p : Fin 6) : Finset S8388608.Idx := seg (n := 8388608) (zStart w p) (zLen p)

/-- Tile `w`'s segment of the middle of a flat vector. -/
abbrev vMid (w : Fin 32) : Finset S65536.Idx := seg (n := 65536) (10848 + 1536 * w.val) 1536

/-- Tile `w`'s segment of the front or the back of a flat vector, or nothing. -/
def vEnd (w : Fin 32) : Finset S65536.Idx :=
  if w.val < 12 then seg (n := 65536) (904 * w.val) 904
  else if w.val < 16 then seg (n := 65536) (60000 + 1384 * (w.val - 12)) 1384
  else ∅

/-! ## The contents of the outputs -/

abbrev ZN (F : FTy → Type) : Type := S2097152.Idx → Elt F .f32
abbrev ZB (F : FTy → Type) : Type := S8388608.Idx → Elt F .f32
abbrev VN (F : FTy → Type) : Type := S16384.Idx → Elt F .f32
abbrev VB (F : FTy → Type) : Type := S65536.Idx → Elt F .f32

/-- The flat `z` of the new queue, from the flat new rows and the flat old queue. -/
abbrev zRing (n : ZN F) (b : ZB F) : ZB F := ring (n := 2097152) (N := 8388608) 1388544 7680000 708608 n b

/-- A flat vector of the new queue, from the new block's and the old queue's. -/
abbrev vRing (n : VN F) (b : VB F) : VB F := ring (n := 16384) (N := 65536) 10848 60000 5536 n b

/-- What the call reads and what its results' buffers hold before it. -/
structure Data (F : FTy → Type) where
  /-- the flat new rows and the new block's three vectors -/
  zn : ZN F
  tn : VN F
  en : VN F
  bn : VN F
  /-- the old queue: its flat rows and its three vectors -/
  zb : ZB F
  tb : VB F
  eb : VB F
  bb : VB F
  /-- the results' buffers before the call -/
  zo : ZB F
  tO : VB F
  eO : VB F
  bO : VB F

/-- The new queue's four arrays. -/
abbrev Data.z (a : Data F) : ZB F := zRing a.zn a.zb
abbrev Data.t (a : Data F) : VB F := vRing a.tn a.tb
abbrev Data.e (a : Data F) : VB F := vRing a.en a.eb
abbrev Data.b (a : Data F) : VB F := vRing a.bn a.bb

/-! ## What the handshakes carry -/

/-- Tile `w`'s share of what every tile reads. -/
abbrev shareOf (w : Fin 32) : PosShare TreeShare := ShareLeaves.leaf 5 fullShare w

/-- The eight arrays the call reads, whole, at share `q`. -/
abbrev srcPts (d : Dev nD) (a : Data F) (q : PosShare TreeShare) : sProp 𝕄 :=
  iprop((znLoc d ↦{q} a.zn) ∗ (zbLoc d ↦{q} a.zb) ∗ (tnLoc d ↦{q} a.tn) ∗ (enLoc d ↦{q} a.en) ∗ (bnLoc d ↦{q} a.bn)
    ∗ (tbLoc d ↦{q} a.tb) ∗ (ebLoc d ↦{q} a.eb) ∗ (bbLoc d ↦{q} a.bb))

/-- Tile `w`'s six pieces of the flat `z`. -/
abbrev zPts (d : Dev nD) (w : Fin 32) (f : ZB F) : sProp 𝕄 :=
  iprop((zoLoc d ↦[zSeg w 0]{fullShare} f) ∗ (zoLoc d ↦[zSeg w 1]{fullShare} f) ∗ (zoLoc d ↦[zSeg w 2]{fullShare} f)
    ∗ (zoLoc d ↦[zSeg w 3]{fullShare} f) ∗ (zoLoc d ↦[zSeg w 4]{fullShare} f) ∗ (zoLoc d ↦[zSeg w 5]{fullShare} f))

/-- Tile `w`'s two pieces of each flat vector: the middle's and the ends'. -/
abbrev midPts (d : Dev nD) (w : Fin 32) (ft fe fb : VB F) : sProp 𝕄 :=
  iprop((toLoc d ↦[vMid w]{fullShare} ft) ∗ (eoLoc d ↦[vMid w]{fullShare} fe) ∗ (boLoc d ↦[vMid w]{fullShare} fb))
abbrev endPts (d : Dev nD) (w : Fin 32) (ft fe fb : VB F) : sProp 𝕄 :=
  iprop((toLoc d ↦[vEnd w]{fullShare} ft) ∗ (eoLoc d ↦[vEnd w]{fullShare} fe) ∗ (boLoc d ↦[vEnd w]{fullShare} fb))

/-- What tile `w` is handed: its share of what is read, and its pieces of the results as they stand. -/
abbrev goPts (d : Dev nD) (a : Data F) (w : Fin 32) : sProp 𝕄 :=
  iprop(srcPts d a (shareOf w) ∗ zPts d w a.zo ∗ midPts d w a.tO a.eO a.bO ∗ endPts d w a.tO a.eO a.bO)
/-- What it hands back: the same share, and its pieces of the results at the new queue's contents. -/
abbrev tdPts (d : Dev nD) (a : Data F) (w : Fin 32) : sProp 𝕄 :=
  iprop(srcPts d a (shareOf w) ∗ zPts d w a.z ∗ midPts d w a.t a.e a.b ∗ endPts d w a.t a.e a.b)

/-- The tile of a core and a subcore as the call counts them. -/
abbrev tileAt [BitOps F] (c : Fin ((K (F := F)).nCore 0)) (i : Fin ((K (F := F)).nSub 0)) : Fin 32 :=
  tileOf (Fin.cast nCore_zero c) (Fin.cast nSub_zero i)

/-- The call's handshakes: a core is handed what its sixteen tiles are, and hands back what they do. -/
def P [BitOps F] (a : Dev nD → Data F) : (K (F := F)).Pay (nD := nD) (Val := Elt F) (Name := ℕ) (U := UU) where
  st := fun q d c => match q with | 0 => bigSep Finset.univ fun i : Fin ((K (F := F)).nSub 0) => goPts d (a d) (tileAt c i)
  dn := fun q d c => match q with | 0 => bigSep Finset.univ fun i : Fin ((K (F := F)).nSub 0) => tdPts d (a d) (tileAt c i)
  go := fun q d c i => match q with | 0 => goPts d (a d) (tileAt c i)
  td := fun q d c i => match q with | 0 => tdPts d (a d) (tileAt c i)
  x := fun _ _ => iprop(emp)

instance P_storable [BitOps F] (a : Dev nD → Data F) : (P a).IsStorable where
  st q d c := match q with
    | 0 => (inferInstance : BI.Storable (upEmb : UEmb _ 𝕄) (bigSep Finset.univ fun i : Fin ((K (F := F)).nSub 0) => goPts d (a d) (tileAt c i)))
  dn q d c := match q with
    | 0 => (inferInstance : BI.Storable (upEmb : UEmb _ 𝕄) (bigSep Finset.univ fun i : Fin ((K (F := F)).nSub 0) => tdPts d (a d) (tileAt c i)))
  go q d c i := match q with
    | 0 => (inferInstance : BI.Storable (upEmb : UEmb _ 𝕄) (goPts d (a d) (tileAt c i)))
  td q d c i := match q with
    | 0 => (inferInstance : BI.Storable (upEmb : UEmb _ 𝕄) (tdPts d (a d) (tileAt c i)))

/-- A core's part of the call splits into its tiles' parts, and theirs join into its own: it is they. -/
theorem vecSplit [BitOps F] (a : Dev nD → Data F) : (K (F := F)).VecSplit' (P a) 0 := by
  intro d c
  show (bigSep Finset.univ fun i : Fin ((K (F := F)).nSub 0) => goPts d (a d) (tileAt c i)) ⊢ |={Set.univ}=> iprop(
      (bigSep Finset.univ fun i : Fin ((K (F := F)).nSub 0) => goPts d (a d) (tileAt c i))
      ∗ ((bigSep Finset.univ fun i : Fin ((K (F := F)).nSub 0) => tdPts d (a d) (tileAt c i))
          -∗ (bigSep Finset.univ fun i : Fin ((K (F := F)).nSub 0) => tdPts d (a d) (tileAt c i))))
  iintro H; imodintro
  isplitl [H]; · iexact H
  iintro H; iexact H

end Cert.Proof.Enqueue

end
-- ==== Proof.Tile.lean ====
/-
  One tile's run. Its nine copies go through two scratch buffers, each copied in and waited for, then copied out and
  waited for two copies later, when the buffer is next needed; then, on the tiles that have one, the short copies of the
  front or the back of the three vectors. Everything a copy moves is named by where it was read, so each piece of a result
  ends at the new queue's contents (`landed`).
-/
module

public import proofs.«01_k».proof.Proof.Setup

@[expose] public section

noncomputable section

namespace Cert.Proof.Enqueue

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "znV" => (Memref.whole Cert.Kernel.main_v0_scv : Memref Cert.Kernel.sig Kind.scVector Space.hbm Cert.Kernel.S2097152 EltTy.f32)
local notation "tnV" => (Memref.whole Cert.Kernel.main_arg1_scv : Memref Cert.Kernel.sig Kind.scVector Space.hbm Cert.Kernel.S16384 EltTy.f32)
local notation "enV" => (Memref.whole Cert.Kernel.main_arg2_scv : Memref Cert.Kernel.sig Kind.scVector Space.hbm Cert.Kernel.S16384 EltTy.f32)
local notation "bnV" => (Memref.whole Cert.Kernel.main_v2_scv : Memref Cert.Kernel.sig Kind.scVector Space.hbm Cert.Kernel.S16384 EltTy.f32)
local notation "zbV" => (Memref.whole Cert.Kernel.main_v1_scv : Memref Cert.Kernel.sig Kind.scVector Space.hbm Cert.Kernel.S8388608 EltTy.f32)
local notation "tbV" => (Memref.whole Cert.Kernel.main_arg5_scv : Memref Cert.Kernel.sig Kind.scVector Space.hbm Cert.Kernel.S65536 EltTy.f32)
local notation "ebV" => (Memref.whole Cert.Kernel.main_arg6_scv : Memref Cert.Kernel.sig Kind.scVector Space.hbm Cert.Kernel.S65536 EltTy.f32)
local notation "bbV" => (Memref.whole Cert.Kernel.main_v3_scv : Memref Cert.Kernel.sig Kind.scVector Space.hbm Cert.Kernel.S65536 EltTy.f32)
local notation "zoV" => (Memref.whole Cert.Kernel.main_v4_0_scv : Memref Cert.Kernel.sig Kind.scVector Space.hbm Cert.Kernel.S8388608 EltTy.f32)
local notation "toV" => (Memref.whole Cert.Kernel.main_v4_1_scv : Memref Cert.Kernel.sig Kind.scVector Space.hbm Cert.Kernel.S65536 EltTy.f32)
local notation "eoV" => (Memref.whole Cert.Kernel.main_v4_2_scv : Memref Cert.Kernel.sig Kind.scVector Space.hbm Cert.Kernel.S65536 EltTy.f32)
local notation "boV" => (Memref.whole Cert.Kernel.main_v4_3_scv : Memref Cert.Kernel.sig Kind.scVector Space.hbm Cert.Kernel.S65536 EltTy.f32)
local notation "s0V" => (Memref.whole Cert.Kernel.cc0_scratch0 : Memref Cert.Kernel.sig Kind.scVector Space.vmem Cert.Kernel.S49152 EltTy.f32)
local notation "s1V" => (Memref.whole Cert.Kernel.cc0_scratch1 : Memref Cert.Kernel.sig Kind.scVector Space.vmem Cert.Kernel.S49152 EltTy.f32)

/-! ## The pieces of the outputs as the tile addresses them -/

section Pieces

variable (L : grid0.Coords)

abbrev zoK0 : Memref sig .scVector .hbm S43392 .f32 := (zoV).slice (Rect.unit (s := S8388608) (k0_off2 L) S43392.size (k0_off2_inb L)) (fun _ => rfl)
abbrev zoK1 : Memref sig .scVector .hbm S49152 .f32 := (zoV).slice (Rect.unit (s := S8388608) (k0_off3 L 0#32) S49152.size (k0_off3_inb L 0)) (fun _ => rfl)
abbrev zoK2 : Memref sig .scVector .hbm S49152 .f32 := (zoV).slice (Rect.unit (s := S8388608) (k0_off3 L 49152#32) S49152.size (k0_off3_inb L 1)) (fun _ => rfl)
abbrev zoK3 : Memref sig .scVector .hbm S49152 .f32 := (zoV).slice (Rect.unit (s := S8388608) (k0_off3 L 98304#32) S49152.size (k0_off3_inb L 2)) (fun _ => rfl)
abbrev zoK4 : Memref sig .scVector .hbm S49152 .f32 := (zoV).slice (Rect.unit (s := S8388608) (k0_off3 L 147456#32) S49152.size (k0_off3_inb L 3)) (fun _ => rfl)
abbrev zoK5 : Memref sig .scVector .hbm S22144 .f32 := (zoV).slice (Rect.unit (s := S8388608) (k0_off5 L) S22144.size (k0_off5_inb L)) (fun _ => rfl)
abbrev midK (v : Memref sig .scVector .hbm S65536 .f32) : Memref sig .scVector .hbm S1536 .f32 :=
  v.slice (Rect.unit (s := S65536) (k0_off6 L) S1536.size (k0_off6_inb L)) (fun _ => rfl)
abbrev frontK (v : Memref sig .scVector .hbm S65536 .f32) (h : k0_cond1 L = 1#1) : Memref sig .scVector .hbm S904 .f32 :=
  v.slice (Rect.unit (s := S65536) (k0_off8 L) S904.size (k0_off8_inb L h)) (fun _ => rfl)
abbrev backK (v : Memref sig .scVector .hbm S65536 .f32) (h : k0_cond2 L = 1#1) : Memref sig .scVector .hbm S1384 .f32 :=
  v.slice (Rect.unit (s := S65536) (k0_off10 L) S1384.size (k0_off10_inb L h)) (fun _ => rfl)

/-! Where the copies start, by the tile's number. -/

theorem off1_val : k0_off1 L 0 = 708608 + 43392 * (tileL L).val := by rw [k0_off1_eq, tileL_val]; show 86784 * (L 1).val + 43392 * (L 0).val + 708608 = _; omega
theorem off2_val : k0_off2 L 0 = 43392 * (tileL L).val := by rw [k0_off2_eq, tileL_val]; show 86784 * (L 1).val + 43392 * (L 0).val = _; omega
theorem off3_val (r : Fin 4) : k0_off3 L (BitVec.ofNat 32 (49152 * r.val)) 0 = 1388544 + 196608 * (tileL L).val + 49152 * r.val := by
  rw [k0_off3_eq, tileL_val]; show 393216 * (L 1).val + 196608 * (L 0).val + 49152 * r.val + 1388544 = _; omega
theorem off3_val0 : k0_off3 L 0#32 0 = 1388544 + 196608 * (tileL L).val := off3_val L 0
theorem off3_val1 : k0_off3 L 49152#32 0 = 1388544 + 196608 * (tileL L).val + 49152 := off3_val L 1
theorem off3_val2 : k0_off3 L 98304#32 0 = 1388544 + 196608 * (tileL L).val + 98304 := off3_val L 2
theorem off3_val3 : k0_off3 L 147456#32 0 = 1388544 + 196608 * (tileL L).val + 147456 := off3_val L 3
theorem off4_val : k0_off4 L 0 = 22144 * (tileL L).val := by rw [k0_off4_eq, tileL_val]; show 44288 * (L 1).val + 22144 * (L 0).val = _; omega
theorem off5_val : k0_off5 L 0 = 7680000 + 22144 * (tileL L).val := by rw [k0_off5_eq, tileL_val]; show 44288 * (L 1).val + 22144 * (L 0).val + 7680000 = _; omega
theorem off6_val : k0_off6 L 0 = 10848 + 1536 * (tileL L).val := by rw [k0_off6_eq, tileL_val]; show 3072 * (L 1).val + 1536 * (L 0).val + 10848 = _; omega
theorem off7_val : k0_off7 L 0 = 5536 + 904 * (tileL L).val := by rw [k0_off7_eq, tileL_val]; show 1808 * (L 1).val + 904 * (L 0).val + 5536 = _; omega
theorem off8_val : k0_off8 L 0 = 904 * (tileL L).val := by rw [k0_off8_eq, tileL_val]; show 1808 * (L 1).val + 904 * (L 0).val = _; omega
theorem off10_val : k0_off10 L 0 = 43392 + 1384 * (tileL L).val := by rw [k0_off10_eq, tileL_val]; show 2768 * (L 1).val + 1384 * (L 0).val + 43392 = _; omega

/-- A slice of a whole one-axis array has the elements of a segment. -/
theorem set_slice_seg {n : ℕ} {r : Finset (Flat n).Idx} (off size : Fin 1 → ℕ) (inb : ∀ a, off a + size a ≤ (Flat n).size a)
    (h : r = (Rect.unit (s := Flat n) off size inb).set) {lo len : ℕ} (h0 : off 0 = lo) (h1 : size 0 = len) : r = seg lo len := by
  rw [h, set_unit, h0, h1]

theorem set_zoK0 : (zoK0 L).view.set = zSeg (tileL L) 0 := set_slice_seg _ _ (k0_off2_inb L) (View.set_slice_whole _ _) (off2_val L) rfl
theorem set_zoK1 : (zoK1 L).view.set = zSeg (tileL L) 1 := set_slice_seg _ _ (k0_off3_inb L 0) (View.set_slice_whole _ _) (off3_val0 L) rfl
theorem set_zoK2 : (zoK2 L).view.set = zSeg (tileL L) 2 := set_slice_seg _ _ (k0_off3_inb L 1) (View.set_slice_whole _ _) (off3_val1 L) rfl
theorem set_zoK3 : (zoK3 L).view.set = zSeg (tileL L) 3 := set_slice_seg _ _ (k0_off3_inb L 2) (View.set_slice_whole _ _) (off3_val2 L) rfl
theorem set_zoK4 : (zoK4 L).view.set = zSeg (tileL L) 4 := set_slice_seg _ _ (k0_off3_inb L 3) (View.set_slice_whole _ _) (off3_val3 L) rfl
theorem set_zoK5 : (zoK5 L).view.set = zSeg (tileL L) 5 := set_slice_seg _ _ (k0_off5_inb L) (View.set_slice_whole _ _) (off5_val L) rfl
theorem set_mid_t : (midK L toV).view.set = vMid (tileL L) := set_slice_seg _ _ (k0_off6_inb L) (View.set_slice_whole _ _) (off6_val L) rfl
theorem set_front_t (h : k0_cond1 L = 1#1) : (frontK L toV h).view.set = vEnd (tileL L) := by
  rw [vEnd, if_pos ((cond1_iff L).mp h)]
  exact set_slice_seg _ _ (k0_off8_inb L h) (View.set_slice_whole _ _) (off8_val L) rfl
theorem set_back_t (h : k0_cond2 L = 1#1) : (backK L toV h).view.set = vEnd (tileL L) := by
  have hw := (cond2_iff L).mp h
  rw [vEnd, if_neg (by omega), if_pos hw.2]
  exact set_slice_seg _ _ (k0_off10_inb L h) (View.set_slice_whole _ _) ((off10_val L).trans (by omega)) rfl
theorem set_mid_e : (midK L eoV).view.set = vMid (tileL L) := set_slice_seg _ _ (k0_off6_inb L) (View.set_slice_whole _ _) (off6_val L) rfl
theorem set_front_e (h : k0_cond1 L = 1#1) : (frontK L eoV h).view.set = vEnd (tileL L) := by
  rw [vEnd, if_pos ((cond1_iff L).mp h)]
  exact set_slice_seg _ _ (k0_off8_inb L h) (View.set_slice_whole _ _) (off8_val L) rfl
theorem set_back_e (h : k0_cond2 L = 1#1) : (backK L eoV h).view.set = vEnd (tileL L) := by
  have hw := (cond2_iff L).mp h
  rw [vEnd, if_neg (by omega), if_pos hw.2]
  exact set_slice_seg _ _ (k0_off10_inb L h) (View.set_slice_whole _ _) ((off10_val L).trans (by omega)) rfl
theorem set_mid_b : (midK L boV).view.set = vMid (tileL L) := set_slice_seg _ _ (k0_off6_inb L) (View.set_slice_whole _ _) (off6_val L) rfl
theorem set_front_b (h : k0_cond1 L = 1#1) : (frontK L boV h).view.set = vEnd (tileL L) := by
  rw [vEnd, if_pos ((cond1_iff L).mp h)]
  exact set_slice_seg _ _ (k0_off8_inb L h) (View.set_slice_whole _ _) (off8_val L) rfl
theorem set_back_b (h : k0_cond2 L = 1#1) : (backK L boV h).view.set = vEnd (tileL L) := by
  have hw := (cond2_iff L).mp h
  rw [vEnd, if_neg (by omega), if_pos hw.2]
  exact set_slice_seg _ _ (k0_off10_inb L h) (View.set_slice_whole _ _) ((off10_val L).trans (by omega)) rfl

end Pieces

/-! ## What lands -/

/-- A slice of a buffer whose last write was through that slice reads what was written. -/
theorem read_last {sp : Space} {s : Shape} {e : EltTy} (m : Memref sig .scVector sp s e) (r : Rect s) (hr : ∀ a, r.stride a = 1)
    (f : m.view.ty.Contents (Elt F)) (w : r.shape.Idx → Elt F e) (l : List (View.Piece (Elt F) s e)) :
    (m.slice r hr).view.read (Elt F) (m.view.writes (Elt F) f (⟨r, w⟩ :: l)) = w :=
  funext fun x => View.read_writes_cons_emb (v := m.view) (Val := Elt F) (f := f) r w l x

/-- A piece of a buffer wholly written with what `G` reads there is that piece of a buffer holding `G`. -/
theorem landed (d : Dev nD) (c : Fin τ.nSC) (i : Fin τ.nSub) {sp : Space} {s : Shape} {e : EltTy} (m : Memref sig .scVector sp s e)
    (f G : Buf (Elt F) (m.view.loc (V d c i))) (w : s.Idx → Elt F e) (h : ∀ x, w x = m.view.read (Elt F) G x)
    {I : Finset (Idx (m.view.loc (V d c i)))} (hI : m.view.set = I) :
    (m.view.loc (V d c i) ↦[m.view.set]{fullShare} m.view.writes (Elt F) f [⟨Rect.whole s, w⟩] : sProp 𝕄)
      = m.view.loc (V d c i) ↦[I]{fullShare} G := by
  subst hI
  refine pointsTo_congr fun i hi => ?_
  obtain ⟨y, rfl⟩ := View.exists_emb_of_mem_set m.view hi
  have hr : m.view.read (Elt F) (m.view.writes (Elt F) f [⟨Rect.whole s, w⟩]) y = m.view.read (Elt F) G y := by
    have h1 := View.read_writes_cons_emb (v := m.view) (Val := Elt F) (f := f) (Rect.whole s) w [] y
    have h2 : (Rect.whole s).emb y = y := Rect.emb_whole_apply s y
    rw [h2] at h1
    exact h1.trans (h y)
  rw [View.read_apply, View.read_apply] at hr
  exact (cast_inj _).mp hr

variable [BitOps F]

/-! ## The tile's own semaphores and scratch -/

section Own

variable (d : Dev nD) (L : grid0.Coords)

/-- A tile's DMA cells, by their place in the pool. -/
abbrev cell (d : Dev nD) (c : Fin τ.nSC) (i : Fin τ.nSub) (k : Fin 24) : GSem nD τ sig := (V d c i, .dma k)

omit [BitOps F] in
theorem cell_mem (c : Fin τ.nSC) (i : Fin τ.nSub) (k : Fin 24) : cell d c i k ∈ ownCells (V d c i) :=
  mem_ownCells.mpr ⟨rfl, (show ∀ s : DmaSem sig, (SemLoc.dma s : SemLoc sig).isScoped .scVector = true by decide) _⟩

/-- The twenty-four DMA cells at zero, one by one. -/
abbrev cells0 (d : Dev nD) (c : Fin τ.nSC) (i : Fin τ.nSub) : sProp 𝕄 :=
  iprop(semVal (cell d c i 0) 0 ∗ semVal (cell d c i 1) 0 ∗ semVal (cell d c i 2) 0 ∗ semVal (cell d c i 3) 0 ∗ semVal (cell d c i 4) 0 ∗ semVal (cell d c i 5) 0 ∗ semVal (cell d c i 6) 0 ∗ semVal (cell d c i 7) 0 ∗ semVal (cell d c i 8) 0 ∗ semVal (cell d c i 9) 0 ∗ semVal (cell d c i 10) 0 ∗ semVal (cell d c i 11) 0 ∗ semVal (cell d c i 12) 0 ∗ semVal (cell d c i 13) 0 ∗ semVal (cell d c i 14) 0 ∗ semVal (cell d c i 15) 0 ∗ semVal (cell d c i 16) 0 ∗ semVal (cell d c i 17) 0 ∗ semVal (cell d c i 18) 0 ∗ semVal (cell d c i 19) 0 ∗ semVal (cell d c i 20) 0 ∗ semVal (cell d c i 21) 0 ∗ semVal (cell d c i 22) 0 ∗ semVal (cell d c i 23) 0)

omit [BitOps F] in
/-- The tile's own semaphores at zero: its DMA cells, one by one, and the rest. -/
theorem ownSems0_V (c : Fin τ.nSC) (i : Fin τ.nSub) :
    (ownSems0 (V d c i) : sProp 𝕄)
      = iprop(cells0 d c i ∗ bigSep ((ownCells (V d c i)) \ Finset.univ.image (cell d c i)) fun g => semVal g 0) := by
  unfold SparseCore.Cfg.ownSems0
  rw [SparseCore.bigSep_sdiff_split' (t := Finset.univ.image (cell d c i)) (Finset.image_subset_iff.mpr fun k _ => cell_mem d c i k),
    SparseCore.bigSep_image_of_injOn (fun a _ b _ h => by
      have := congrArg (fun g : GSem nD τ sig => g.2) h
      simpa only [SemLoc.dma.injEq] using this)]
  rw [BI.bigSep_eq_bigSepL_of_eq (S := (Finset.univ : Finset (Fin 24))) [0, 1, 2, 3, 4, 5, 6, 7, 8, 9, 10, 11, 12, 13, 14, 15, 16, 17, 18, 19, 20, 21, 22, 23] (by decide) (by decide)]
  rfl

omit [BitOps F] in
/-- The tile's own buffers: its two scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

/-! ## The run -/

set_option maxHeartbeats 8000000 in
/-- The tile at grid point `L`: from its share of what is read and its pieces of the results, its nine copies and, where
    it has them, its short ones, to the same share and its pieces at the new queue's contents; its scratch and its
    semaphores are given back, the semaphores at zero. -/
theorem tile_body (d : Dev nD) (L : grid0.Coords) (a : Data F) (hF : (K (F := F)).Facts) (O : CellTallies nD τ sig (HIx 1)) (W : Waits sig (HIx 1))
    (hO : ∀ g, O g none = 0) :
    iprop(levAts (K (F := F)).L (K (F := F)).lev ∗ emp ∗ goPts d a (tileL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__enqueue_body L znV (Memref.isWhole_whole _) tnV (Memref.isWhole_whole _) enV (Memref.isWhole_whole _)
            bnV (Memref.isWhole_whole _) zbV (Memref.isWhole_whole _) tbV (Memref.isWhole_whole _) ebV (Memref.isWhole_whole _)
            bbV (Memref.isWhole_whole _) zoV (Memref.isWhole_whole _) toV (Memref.isWhole_whole _) eoV (Memref.isWhole_whole _)
            boV (Memref.isWhole_whole _) s0V (Memref.isWhole_whole _) s1V (Memref.isWhole_whole _)
            cc0_scratch2 cc0_scratch3 cc0_scratch4 cc0_scoped0 cc0_scoped1 cc0_scoped2 cc0_scoped3 cc0_scoped4 cc0_scoped5
            cc0_scoped6 cc0_scoped7 cc0_scoped8 cc0_scoped9 cc0_scoped10 cc0_scoped11)
          fun _ => (iprop(tdPts d a (tileL L)
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  rw [cc0__enqueue_body_eq_skeleton]; unfold cc0__enqueue_body_skel
  rw [(K (F := F)).scopedBufs_V hF d (cV L) (jV L), SparseCore.Cfg.scopedSems0_V (Val := Elt F) d (cV L) (jV L), ownSems0_V, ownBufs_V]
  iintro ⟨#Hlv, -, ⟨⟨Hzn, Hzb, Htn, Hen, Hbn, Htb, Heb, Hbb⟩, ⟨Hz0, Hz1, Hz2, Hz3, Hz4, Hz5⟩, ⟨Ht, He, Hb⟩, ⟨Htx, Hex, Hbx⟩⟩,
    ⟨⟨%f0, Hs0⟩, ⟨%f1, Hs1⟩, Hbufs⟩,
    ⟨⟨C0, C1, C2, C3, C4, C5, C6, C7, C8, C9, C10, C11, C12, C13, C14, C15, C16, C17, C18, C19, C20, C21, C22, C23⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hzn := (Entails.of_eq (show (znLoc d ↦{shareOf (tileL L)} a.zn : sProp 𝕄) = ((znV).view.loc (V d (cV L) (jV L)) ↦{shareOf (tileL L)} a.zn) from rfl)) $$ Hzn
  ihave Hzb := (Entails.of_eq (show (zbLoc d ↦{shareOf (tileL L)} a.zb : sProp 𝕄) = ((zbV).view.loc (V d (cV L) (jV L)) ↦{shareOf (tileL L)} a.zb) from rfl)) $$ Hzb
  ihave Htn := (Entails.of_eq (show (tnLoc d ↦{shareOf (tileL L)} a.tn : sProp 𝕄) = ((tnV).view.loc (V d (cV L) (jV L)) ↦{shareOf (tileL L)} a.tn) from rfl)) $$ Htn
  ihave Hen := (Entails.of_eq (show (enLoc d ↦{shareOf (tileL L)} a.en : sProp 𝕄) = ((enV).view.loc (V d (cV L) (jV L)) ↦{shareOf (tileL L)} a.en) from rfl)) $$ Hen
  ihave Hbn := (Entails.of_eq (show (bnLoc d ↦{shareOf (tileL L)} a.bn : sProp 𝕄) = ((bnV).view.loc (V d (cV L) (jV L)) ↦{shareOf (tileL L)} a.bn) from rfl)) $$ Hbn
  ihave Htb := (Entails.of_eq (show (tbLoc d ↦{shareOf (tileL L)} a.tb : sProp 𝕄) = ((tbV).view.loc (V d (cV L) (jV L)) ↦{shareOf (tileL L)} a.tb) from rfl)) $$ Htb
  ihave Heb := (Entails.of_eq (show (ebLoc d ↦{shareOf (tileL L)} a.eb : sProp 𝕄) = ((ebV).view.loc (V d (cV L) (jV L)) ↦{shareOf (tileL L)} a.eb) from rfl)) $$ Heb
  ihave Hbb := (Entails.of_eq (show (bbLoc d ↦{shareOf (tileL L)} a.bb : sProp 𝕄) = ((bbV).view.loc (V d (cV L) (jV L)) ↦{shareOf (tileL L)} a.bb) from rfl)) $$ Hbb
  ihave Hz0 := (Entails.of_eq (show (zoLoc d ↦[zSeg (tileL L) 0]{fullShare} a.zo : sProp 𝕄) = ((zoK0 L).view.loc (V d (cV L) (jV L)) ↦[(zoK0 L).view.set]{fullShare} a.zo) by rw [set_zoK0])) $$ Hz0
  ihave Hz1 := (Entails.of_eq (show (zoLoc d ↦[zSeg (tileL L) 1]{fullShare} a.zo : sProp 𝕄) = ((zoK1 L).view.loc (V d (cV L) (jV L)) ↦[(zoK1 L).view.set]{fullShare} a.zo) by rw [set_zoK1])) $$ Hz1
  ihave Hz2 := (Entails.of_eq (show (zoLoc d ↦[zSeg (tileL L) 2]{fullShare} a.zo : sProp 𝕄) = ((zoK2 L).view.loc (V d (cV L) (jV L)) ↦[(zoK2 L).view.set]{fullShare} a.zo) by rw [set_zoK2])) $$ Hz2
  ihave Hz3 := (Entails.of_eq (show (zoLoc d ↦[zSeg (tileL L) 3]{fullShare} a.zo : sProp 𝕄) = ((zoK3 L).view.loc (V d (cV L) (jV L)) ↦[(zoK3 L).view.set]{fullShare} a.zo) by rw [set_zoK3])) $$ Hz3
  ihave Hz4 := (Entails.of_eq (show (zoLoc d ↦[zSeg (tileL L) 4]{fullShare} a.zo : sProp 𝕄) = ((zoK4 L).view.loc (V d (cV L) (jV L)) ↦[(zoK4 L).view.set]{fullShare} a.zo) by rw [set_zoK4])) $$ Hz4
  ihave Hz5 := (Entails.of_eq (show (zoLoc d ↦[zSeg (tileL L) 5]{fullShare} a.zo : sProp 𝕄) = ((zoK5 L).view.loc (V d (cV L) (jV L)) ↦[(zoK5 L).view.set]{fullShare} a.zo) by rw [set_zoK5])) $$ Hz5
  ihave Ht := (Entails.of_eq (show (toLoc d ↦[vMid (tileL L)]{fullShare} a.tO : sProp 𝕄) = ((midK L toV).view.loc (V d (cV L) (jV L)) ↦[(midK L toV).view.set]{fullShare} a.tO) by rw [set_mid_t])) $$ Ht
  ihave He := (Entails.of_eq (show (eoLoc d ↦[vMid (tileL L)]{fullShare} a.eO : sProp 𝕄) = ((midK L eoV).view.loc (V d (cV L) (jV L)) ↦[(midK L eoV).view.set]{fullShare} a.eO) by rw [set_mid_e])) $$ He
  ihave Hb := (Entails.of_eq (show (boLoc d ↦[vMid (tileL L)]{fullShare} a.bO : sProp 𝕄) = ((midK L boV).view.loc (V d (cV L) (jV L)) ↦[(midK L boV).view.set]{fullShare} a.bO) by rw [set_mid_b])) $$ Hb
  ihave Hs0 := (Entails.of_eq (show ((V d (cV L) (jV L)).loc cc0_scratch0 ↦{fullShare} f0 : sProp 𝕄) = ((s0V).view.loc (V d (cV L) (jV L)) ↦{fullShare} f0) from rfl)) $$ Hs0
  ihave Hs1 := (Entails.of_eq (show ((V d (cV L) (jV L)).loc cc0_scratch1 ↦{fullShare} f1 : sProp 𝕄) = ((s1V).view.loc (V d (cV L) (jV L)) ↦{fullShare} f1) from rfl)) $$ Hs1
  sl_exec
  ihave Hz0 := (Entails.of_eq (landed d (cV L) (jV L) (zoK0 L) a.zo a.z (tile_body.sl.dma0_1 d L a f0)
    (fun x => (congrFun (read_last s0V (Rect.unit (s := S49152) ![0] S43392.size inb_S49152_S43392_0) (fun _ => rfl) _ (tile_body.sl.dma0 L a) _) x).trans (ring_front a.zn a.zb (k0_off1 L) (k0_off2 L) S43392.size (k0_off1_inb L) (k0_off2_inb L)
      (by rw [off2_val]; show 43392 * (tileL L).val + 43392 ≤ 1388544; have := (tileL L).isLt; omega) (by rw [off1_val, off2_val]; omega) x)) (set_zoK0 L))) $$ Hz0
  ihave Hz1 := (Entails.of_eq (landed d (cV L) (jV L) (zoK1 L) a.zo a.z (tile_body.sl.dma0_3 d L a f1)
    (fun x => (congrFun (read_last s1V (Rect.unit (s := S49152) ![0] S49152.size inb_S49152_S49152_0) (fun _ => rfl) _ (tile_body.sl.dma0_2 L a) _) x).trans (ring_middle a.zn a.zb (k0_off3 L 0#32) S49152.size (k0_off3_inb L 0)
      (by rw [off3_val0]; omega) (by rw [off3_val0]; show 1388544 + 196608 * (tileL L).val + 49152 ≤ 7680000; have := (tileL L).isLt; omega) x)) (set_zoK1 L))) $$ Hz1
  ihave Hz2 := (Entails.of_eq (landed d (cV L) (jV L) (zoK2 L) a.zo a.z (tile_body.sl.dma0_5 d L a f0)
    (fun x => (congrFun (read_last s0V (Rect.unit (s := S49152) ![0] S49152.size inb_S49152_S49152_0) (fun _ => rfl) _ (tile_body.sl.dma0_4 L a) _) x).trans (ring_middle a.zn a.zb (k0_off3 L 49152#32) S49152.size (k0_off3_inb L 1)
      (by rw [off3_val1]; omega) (by rw [off3_val1]; show 1388544 + 196608 * (tileL L).val + 49152 + 49152 ≤ 7680000; have := (tileL L).isLt; omega) x)) (set_zoK2 L))) $$ Hz2
  ihave Hz3 := (Entails.of_eq (landed d (cV L) (jV L) (zoK3 L) a.zo a.z (tile_body.sl.dma0_7 d L a f1)
    (fun x => (congrFun (read_last s1V (Rect.unit (s := S49152) ![0] S49152.size inb_S49152_S49152_0) (fun _ => rfl) _ (tile_body.sl.dma0_6 L a) _) x).trans (ring_middle a.zn a.zb (k0_off3 L 98304#32) S49152.size (k0_off3_inb L 2)
      (by rw [off3_val2]; omega) (by rw [off3_val2]; show 1388544 + 196608 * (tileL L).val + 98304 + 49152 ≤ 7680000; have := (tileL L).isLt; omega) x)) (set_zoK3 L))) $$ Hz3
  ihave Hz4 := (Entails.of_eq (landed d (cV L) (jV L) (zoK4 L) a.zo a.z (tile_body.sl.dma0_9 d L a f0)
    (fun x => (congrFun (read_last s0V (Rect.unit (s := S49152) ![0] S49152.size inb_S49152_S49152_0) (fun _ => rfl) _ (tile_body.sl.dma0_8 L a) _) x).trans (ring_middle a.zn a.zb (k0_off3 L 147456#32) S49152.size (k0_off3_inb L 3)
      (by rw [off3_val3]; omega) (by rw [off3_val3]; show 1388544 + 196608 * (tileL L).val + 147456 + 49152 ≤ 7680000; have := (tileL L).isLt; omega) x)) (set_zoK4 L))) $$ Hz4
  ihave Hz5 := (Entails.of_eq (landed d (cV L) (jV L) (zoK5 L) a.zo a.z (tile_body.sl.dma0_11 d L a f1)
    (fun x => (congrFun (read_last s1V (Rect.unit (s := S49152) ![0] S22144.size inb_S49152_S22144_0) (fun _ => rfl) _ (tile_body.sl.dma0_10 L a) _) x).trans (ring_back a.zn a.zb (k0_off4 L) (k0_off5 L) S22144.size (k0_off4_inb L) (k0_off5_inb L)
      (by omega) (by rw [off4_val, off5_val]) x)) (set_zoK5 L))) $$ Hz5
  ihave Ht := (Entails.of_eq (landed d (cV L) (jV L) (midK L toV) a.tO a.t (tile_body.sl.dma0_13 d L a f0)
    (fun x => (congrFun (read_last s0V (Rect.unit (s := S49152) ![0] S1536.size inb_S49152_S1536_0) (fun _ => rfl) _ (tile_body.sl.dma0_12 L a) _) x).trans (ring_middle a.tn a.tb (k0_off6 L) S1536.size (k0_off6_inb L)
      (by rw [off6_val]; omega) (by rw [off6_val]; show 10848 + 1536 * (tileL L).val + 1536 ≤ 60000; have := (tileL L).isLt; omega) x)) (set_mid_t L))) $$ Ht
  ihave He := (Entails.of_eq (landed d (cV L) (jV L) (midK L eoV) a.eO a.e (tile_body.sl.dma0_15 d L a f1)
    (fun x => (congrFun (read_last s1V (Rect.unit (s := S49152) ![0] S1536.size inb_S49152_S1536_0) (fun _ => rfl) _ (tile_body.sl.dma0_14 L a) _) x).trans (ring_middle a.en a.eb (k0_off6 L) S1536.size (k0_off6_inb L)
      (by rw [off6_val]; omega) (by rw [off6_val]; show 10848 + 1536 * (tileL L).val + 1536 ≤ 60000; have := (tileL L).isLt; omega) x)) (set_mid_e L))) $$ He
  ihave Hb := (Entails.of_eq (landed d (cV L) (jV L) (midK L boV) a.bO a.b (tile_body.sl.dma0_17 d L a f0)
    (fun x => (congrFun (read_last s0V (Rect.unit (s := S49152) ![0] S1536.size inb_S49152_S1536_0) (fun _ => rfl) _ (tile_body.sl.dma0_16 L a) _) x).trans (ring_middle a.bn a.bb (k0_off6 L) S1536.size (k0_off6_inb L)
      (by rw [off6_val]; omega) (by rw [off6_val]; show 10848 + 1536 * (tileL L).val + 1536 ≤ 60000; have := (tileL L).isLt; omega) x)) (set_mid_b L))) $$ Hb
  have hw := (tileL L).isLt
  by_cases h1 : k0_cond1 L = 1#1
  · have h2 : ¬ k0_cond2 L = 1#1 := by rw [cond2_iff]; rw [cond1_iff] at h1; omega
    have hlt := (cond1_iff L).mp h1
    ihave Htx := (Entails.of_eq (show (toLoc d ↦[vEnd (tileL L)]{fullShare} a.tO : sProp 𝕄) = ((frontK L toV h1).view.loc (V d (cV L) (jV L)) ↦[(frontK L toV h1).view.set]{fullShare} a.tO) by rw [set_front_t])) $$ Htx
    ihave Hex := (Entails.of_eq (show (eoLoc d ↦[vEnd (tileL L)]{fullShare} a.eO : sProp 𝕄) = ((frontK L eoV h1).view.loc (V d (cV L) (jV L)) ↦[(frontK L eoV h1).view.set]{fullShare} a.eO) by rw [set_front_e])) $$ Hex
    ihave Hbx := (Entails.of_eq (show (boLoc d ↦[vEnd (tileL L)]{fullShare} a.bO : sProp 𝕄) = ((frontK L boV h1).view.loc (V d (cV L) (jV L)) ↦[(frontK L boV h1).view.set]{fullShare} a.bO) by rw [set_front_b])) $$ Hbx
    sl_exec
    ihave Htx := (Entails.of_eq (landed d (cV L) (jV L) (frontK L toV h1) a.tO a.t (tile_body.sl.dma0_20 d L a f0 h1)
      (fun x => (congrFun (read_last s0V (Rect.unit (s := S49152) ![0] S904.size inb_S49152_S904_0) (fun _ => rfl) _ (tile_body.sl.dma0_19 L a h1) _) x).trans (ring_front a.tn a.tb (k0_off7 L) (k0_off8 L) S904.size (k0_off7_inb L h1) (k0_off8_inb L h1)
        (by rw [off8_val]; show 904 * (tileL L).val + 904 ≤ 10848; omega) (by rw [off7_val, off8_val]; omega) x)) (set_front_t L h1))) $$ Htx
    ihave Hex := (Entails.of_eq (landed d (cV L) (jV L) (frontK L eoV h1) a.eO a.e (tile_body.sl.dma0_22 d L a f0 h1)
      (fun x => (congrFun (read_last s0V (Rect.unit (s := S49152) ![0] S904.size inb_S49152_S904_0) (fun _ => rfl) _ (tile_body.sl.dma0_21 L a h1) _) x).trans (ring_front a.en a.eb (k0_off7 L) (k0_off8 L) S904.size (k0_off7_inb L h1) (k0_off8_inb L h1)
        (by rw [off8_val]; show 904 * (tileL L).val + 904 ≤ 10848; omega) (by rw [off7_val, off8_val]; omega) x)) (set_front_e L h1))) $$ Hex
    ihave Hbx := (Entails.of_eq (landed d (cV L) (jV L) (frontK L boV h1) a.bO a.b (tile_body.sl.dma0_24 d L a f0 h1)
      (fun x => (congrFun (read_last s0V (Rect.unit (s := S49152) ![0] S904.size inb_S49152_S904_0) (fun _ => rfl) _ (tile_body.sl.dma0_23 L a h1) _) x).trans (ring_front a.bn a.bb (k0_off7 L) (k0_off8 L) S904.size (k0_off7_inb L h1) (k0_off8_inb L h1)
        (by rw [off8_val]; show 904 * (tileL L).val + 904 ≤ 10848; omega) (by rw [off7_val, off8_val]; omega) x)) (set_front_b L h1))) $$ Hbx
    sl_step
    isplitl [Hzn Hzb Htn Hen Hbn Htb Heb Hbb Hz0 Hz1 Hz2 Hz3 Hz4 Hz5 Ht He Hb Htx Hex Hbx]
    · isplitl [Hzn Hzb Htn Hen Hbn Htb Heb Hbb]
      · isplitl [Hzn]; · iexact Hzn
        isplitl [Hzb]; · iexact Hzb
        isplitl [Htn]; · iexact Htn
        isplitl [Hen]; · iexact Hen
        isplitl [Hbn]; · iexact Hbn
        isplitl [Htb]; · iexact Htb
        isplitl [Heb]; · iexact Heb
        iexact Hbb
      isplitl [Hz0 Hz1 Hz2 Hz3 Hz4 Hz5]
      · isplitl [Hz0]; · iexact Hz0
        isplitl [Hz1]; · iexact Hz1
        isplitl [Hz2]; · iexact Hz2
        isplitl [Hz3]; · iexact Hz3
        isplitl [Hz4]; · iexact Hz4
        iexact Hz5
      isplitl [Ht He Hb]
      · isplitl [Ht]; · iexact Ht
        isplitl [He]; · iexact He
        iexact Hb
      isplitl [Htx]; · iexact Htx
      isplitl [Hex]; · iexact Hex
      iexact Hbx
    isplitl [Hs0 Hs1 Hbufs]
    · isplitl [Hs0]; · iexists _; iexact Hs0
      isplitl [Hs1]; · iexists _; iexact Hs1
      iexact Hbufs
    isplitl [C0 C1 C2 C3 C4 C5 C6 C7 C8 C9 C10 C11 C12 C13 C14 C15 C16 C17 C18 C19 C20 C21 C22 C23 Hsems]
    · isplitl [C0 C1 C2 C3 C4 C5 C6 C7 C8 C9 C10 C11 C12 C13 C14 C15 C16 C17 C18 C19 C20 C21 C22 C23]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        isplitl [C10]; · iexact C10
        isplitl [C11]; · iexact C11
        isplitl [C12]; · iexact C12
        isplitl [C13]; · iexact C13
        isplitl [C14]; · iexact C14
        isplitl [C15]; · iexact C15
        isplitl [C16]; · iexact C16
        isplitl [C17]; · iexact C17
        isplitl [C18]; · iexact C18
        isplitl [C19]; · iexact C19
        isplitl [C20]; · iexact C20
        isplitl [C21]; · iexact C21
        isplitl [C22]; · iexact C22
        iexact C23
      iexact Hsems
    iexists _; isplitr
    swap; · iexact HO
    ipureintro; intro p hp
    repeat (rcases Finset.mem_insert.mp hp with hp | hp; · exact .inr (hp ▸ rfl))
    exact .inl hp
  by_cases h2 : k0_cond2 L = 1#1
  · have h9 := off9_val L h2
    have hge := (cond2_iff L).mp h2
    ihave Htx := (Entails.of_eq (show (toLoc d ↦[vEnd (tileL L)]{fullShare} a.tO : sProp 𝕄) = ((backK L toV h2).view.loc (V d (cV L) (jV L)) ↦[(backK L toV h2).view.set]{fullShare} a.tO) by rw [set_back_t])) $$ Htx
    ihave Hex := (Entails.of_eq (show (eoLoc d ↦[vEnd (tileL L)]{fullShare} a.eO : sProp 𝕄) = ((backK L eoV h2).view.loc (V d (cV L) (jV L)) ↦[(backK L eoV h2).view.set]{fullShare} a.eO) by rw [set_back_e])) $$ Hex
    ihave Hbx := (Entails.of_eq (show (boLoc d ↦[vEnd (tileL L)]{fullShare} a.bO : sProp 𝕄) = ((backK L boV h2).view.loc (V d (cV L) (jV L)) ↦[(backK L boV h2).view.set]{fullShare} a.bO) by rw [set_back_b])) $$ Hbx
    sl_exec
    ihave Htx := (Entails.of_eq (landed d (cV L) (jV L) (backK L toV h2) a.tO a.t (tile_body.sl.dma0_26 d L a f0 h2)
      (fun x => (congrFun (read_last s0V (Rect.unit (s := S49152) ![0] S1384.size inb_S49152_S1384_0) (fun _ => rfl) _ (tile_body.sl.dma0_25 L a h2) _) x).trans (ring_back a.tn a.tb (k0_off9 L) (k0_off10 L) S1384.size (k0_off9_inb L h2) (k0_off10_inb L h2)
        (by omega) (by rw [off10_val]; omega) x)) (set_back_t L h2))) $$ Htx
    ihave Hex := (Entails.of_eq (landed d (cV L) (jV L) (backK L eoV h2) a.eO a.e (tile_body.sl.dma0_28 d L a f0 h2)
      (fun x => (congrFun (read_last s0V (Rect.unit (s := S49152) ![0] S1384.size inb_S49152_S1384_0) (fun _ => rfl) _ (tile_body.sl.dma0_27 L a h2) _) x).trans (ring_back a.en a.eb (k0_off9 L) (k0_off10 L) S1384.size (k0_off9_inb L h2) (k0_off10_inb L h2)
        (by omega) (by rw [off10_val]; omega) x)) (set_back_e L h2))) $$ Hex
    ihave Hbx := (Entails.of_eq (landed d (cV L) (jV L) (backK L boV h2) a.bO a.b (tile_body.sl.dma0_30 d L a f0 h2)
      (fun x => (congrFun (read_last s0V (Rect.unit (s := S49152) ![0] S1384.size inb_S49152_S1384_0) (fun _ => rfl) _ (tile_body.sl.dma0_29 L a h2) _) x).trans (ring_back a.bn a.bb (k0_off9 L) (k0_off10 L) S1384.size (k0_off9_inb L h2) (k0_off10_inb L h2)
        (by omega) (by rw [off10_val]; omega) x)) (set_back_b L h2))) $$ Hbx
    sl_step
    isplitl [Hzn Hzb Htn Hen Hbn Htb Heb Hbb Hz0 Hz1 Hz2 Hz3 Hz4 Hz5 Ht He Hb Htx Hex Hbx]
    · isplitl [Hzn Hzb Htn Hen Hbn Htb Heb Hbb]
      · isplitl [Hzn]; · iexact Hzn
        isplitl [Hzb]; · iexact Hzb
        isplitl [Htn]; · iexact Htn
        isplitl [Hen]; · iexact Hen
        isplitl [Hbn]; · iexact Hbn
        isplitl [Htb]; · iexact Htb
        isplitl [Heb]; · iexact Heb
        iexact Hbb
      isplitl [Hz0 Hz1 Hz2 Hz3 Hz4 Hz5]
      · isplitl [Hz0]; · iexact Hz0
        isplitl [Hz1]; · iexact Hz1
        isplitl [Hz2]; · iexact Hz2
        isplitl [Hz3]; · iexact Hz3
        isplitl [Hz4]; · iexact Hz4
        iexact Hz5
      isplitl [Ht He Hb]
      · isplitl [Ht]; · iexact Ht
        isplitl [He]; · iexact He
        iexact Hb
      isplitl [Htx]; · iexact Htx
      isplitl [Hex]; · iexact Hex
      iexact Hbx
    isplitl [Hs0 Hs1 Hbufs]
    · isplitl [Hs0]; · iexists _; iexact Hs0
      isplitl [Hs1]; · iexists _; iexact Hs1
      iexact Hbufs
    isplitl [C0 C1 C2 C3 C4 C5 C6 C7 C8 C9 C10 C11 C12 C13 C14 C15 C16 C17 C18 C19 C20 C21 C22 C23 Hsems]
    · isplitl [C0 C1 C2 C3 C4 C5 C6 C7 C8 C9 C10 C11 C12 C13 C14 C15 C16 C17 C18 C19 C20 C21 C22 C23]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        isplitl [C10]; · iexact C10
        isplitl [C11]; · iexact C11
        isplitl [C12]; · iexact C12
        isplitl [C13]; · iexact C13
        isplitl [C14]; · iexact C14
        isplitl [C15]; · iexact C15
        isplitl [C16]; · iexact C16
        isplitl [C17]; · iexact C17
        isplitl [C18]; · iexact C18
        isplitl [C19]; · iexact C19
        isplitl [C20]; · iexact C20
        isplitl [C21]; · iexact C21
        isplitl [C22]; · iexact C22
        iexact C23
      iexact Hsems
    iexists _; isplitr
    swap; · iexact HO
    ipureintro; intro p hp
    repeat (rcases Finset.mem_insert.mp hp with hp | hp; · exact .inr (hp ▸ rfl))
    exact .inl hp
  · have hend : vEnd (tileL L) = ∅ := by
      rw [vEnd, if_neg (mt (cond1_iff L).mpr h1), if_neg]
      intro h; exact h2 ((cond2_iff L).mpr ⟨by have := mt (cond1_iff L).mpr h1; omega, h⟩)
    ihave Htx := (Entails.of_eq (show (toLoc d ↦[vEnd (tileL L)]{fullShare} a.tO : sProp 𝕄) = (toLoc d ↦[vEnd (tileL L)]{fullShare} a.t)
      from pointsTo_congr fun i hi => absurd (hend ▸ hi) (Finset.notMem_empty i))) $$ Htx
    ihave Hex := (Entails.of_eq (show (eoLoc d ↦[vEnd (tileL L)]{fullShare} a.eO : sProp 𝕄) = (eoLoc d ↦[vEnd (tileL L)]{fullShare} a.e)
      from pointsTo_congr fun i hi => absurd (hend ▸ hi) (Finset.notMem_empty i))) $$ Hex
    ihave Hbx := (Entails.of_eq (show (boLoc d ↦[vEnd (tileL L)]{fullShare} a.bO : sProp 𝕄) = (boLoc d ↦[vEnd (tileL L)]{fullShare} a.b)
      from pointsTo_congr fun i hi => absurd (hend ▸ hi) (Finset.notMem_empty i))) $$ Hbx
    sl_exec
    sl_step
    isplitl [Hzn Hzb Htn Hen Hbn Htb Heb Hbb Hz0 Hz1 Hz2 Hz3 Hz4 Hz5 Ht He Hb Htx Hex Hbx]
    · isplitl [Hzn Hzb Htn Hen Hbn Htb Heb Hbb]
      · isplitl [Hzn]; · iexact Hzn
        isplitl [Hzb]; · iexact Hzb
        isplitl [Htn]; · iexact Htn
        isplitl [Hen]; · iexact Hen
        isplitl [Hbn]; · iexact Hbn
        isplitl [Htb]; · iexact Htb
        isplitl [Heb]; · iexact Heb
        iexact Hbb
      isplitl [Hz0 Hz1 Hz2 Hz3 Hz4 Hz5]
      · isplitl [Hz0]; · iexact Hz0
        isplitl [Hz1]; · iexact Hz1
        isplitl [Hz2]; · iexact Hz2
        isplitl [Hz3]; · iexact Hz3
        isplitl [Hz4]; · iexact Hz4
        iexact Hz5
      isplitl [Ht He Hb]
      · isplitl [Ht]; · iexact Ht
        isplitl [He]; · iexact He
        iexact Hb
      isplitl [Htx]; · iexact Htx
      isplitl [Hex]; · iexact Hex
      iexact Hbx
    isplitl [Hs0 Hs1 Hbufs]
    · isplitl [Hs0]; · iexists _; iexact Hs0
      isplitl [Hs1]; · iexists _; iexact Hs1
      iexact Hbufs
    isplitl [C0 C1 C2 C3 C4 C5 C6 C7 C8 C9 C10 C11 C12 C13 C14 C15 C16 C17 C18 C19 C20 C21 C22 C23 Hsems]
    · isplitl [C0 C1 C2 C3 C4 C5 C6 C7 C8 C9 C10 C11 C12 C13 C14 C15 C16 C17 C18 C19 C20 C21 C22 C23]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        isplitl [C10]; · iexact C10
        isplitl [C11]; · iexact C11
        isplitl [C12]; · iexact C12
        isplitl [C13]; · iexact C13
        isplitl [C14]; · iexact C14
        isplitl [C15]; · iexact C15
        isplitl [C16]; · iexact C16
        isplitl [C17]; · iexact C17
        isplitl [C18]; · iexact C18
        isplitl [C19]; · iexact C19
        isplitl [C20]; · iexact C20
        isplitl [C21]; · iexact C21
        isplitl [C22]; · iexact C22
        iexact C23
      iexact Hsems
    iexists _; isplitr
    swap; · iexact HO
    ipureintro; intro p hp
    repeat (rcases Finset.mem_insert.mp hp with hp | hp; · exact .inr (hp ▸ rfl))
    exact .inl hp

end Cert.Proof.Enqueue

end
-- ==== Proof.Deal.lean ====
/-
  Dealing the enqueue's arrays to its tiles. The arrays that are read go out by shares, one to each of the thirty-two
  tiles; the results go out by pieces, each array being the disjoint union of the tiles' pieces of it. What the call takes
  from the TensorCore (`callPts`) is then what its tiles are handed, and what they hand back is what it gives back.
-/
module

public import proofs.«01_k».proof.Proof.Setup

@[expose] public section

noncomputable section

namespace Cert.Proof.Enqueue

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Tiles by core and subcore, and by number -/

/-- Cores and subcores against tile numbers. -/
def tileEquiv : Fin 2 × Fin 16 ≃ Fin 32 where
  toFun p := tileOf p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- A family over the cores' subcores is one over the tile numbers. -/
theorem bigSep_tiles [BitOps F] (Φ : Fin 32 → sProp 𝕄) :
    (bigSep Finset.univ fun c : Fin ((K (F := F)).nCore 0) => bigSep Finset.univ fun i : Fin ((K (F := F)).nSub 0) => Φ (tileAt c i))
      = bigSep Finset.univ Φ := by
  rw [bigSep_univ_equiv tileEquiv Φ, bigSep_univ_prod]
  rfl

/-! ## The pieces of the flat `z` -/

theorem zSeg_disjoint (x y : Fin 6 × Fin 32) (h : x ≠ y) : Disjoint (zSeg x.2 x.1) (zSeg y.2 y.1) := by
  obtain ⟨p, w⟩ := x
  obtain ⟨p', w'⟩ := y
  have hw := w.isLt
  have hw' := w'.isLt
  have hne : p = p' → w.val ≠ w'.val := fun e e' => h (by rw [e, Fin.ext e'])
  refine seg_disjoint ?_
  fin_cases p <;> fin_cases p' <;> first
    | (have := hne rfl; simp only [zStart, zLen]; omega)
    | (simp only [zStart, zLen]; omega)

theorem zSeg_cover : (Finset.univ : Finset (Fin 6 × Fin 32)).biUnion (fun x => zSeg x.2 x.1) = Finset.univ := by
  refine Finset.eq_univ_of_forall fun j => Finset.mem_biUnion.mpr ?_
  have hj : (j 0).val < 8388608 := flat_lt j
  by_cases h0 : (j 0).val < 1388544
  · exact ⟨(0, ⟨(j 0).val / 43392, by omega⟩), Finset.mem_univ _, mem_seg.mpr (by simp only [zStart, zLen]; omega)⟩
  by_cases h5 : 7680000 ≤ (j 0).val
  · exact ⟨(5, ⟨((j 0).val - 7680000) / 22144, by omega⟩), Finset.mem_univ _, mem_seg.mpr (by simp only [zStart, zLen]; omega)⟩
  by_cases h1 : ((j 0).val - 1388544) % 196608 < 49152
  · exact ⟨(1, ⟨((j 0).val - 1388544) / 196608, by omega⟩), Finset.mem_univ _, mem_seg.mpr (by simp only [zStart, zLen]; omega)⟩
  by_cases h2 : ((j 0).val - 1388544) % 196608 < 98304
  · exact ⟨(2, ⟨((j 0).val - 1388544) / 196608, by omega⟩), Finset.mem_univ _, mem_seg.mpr (by simp only [zStart, zLen]; omega)⟩
  by_cases h3 : ((j 0).val - 1388544) % 196608 < 147456
  · exact ⟨(3, ⟨((j 0).val - 1388544) / 196608, by omega⟩), Finset.mem_univ _, mem_seg.mpr (by simp only [zStart, zLen]; omega)⟩
  · exact ⟨(4, ⟨((j 0).val - 1388544) / 196608, by omega⟩), Finset.mem_univ _, mem_seg.mpr (by simp only [zStart, zLen]; omega)⟩

/-- The flat `z` whole is its tiles' pieces. -/
theorem z_pieces (d : Dev nD) (f : ZB F) :
    (zoLoc d ↦{fullShare} f : sProp 𝕄) = bigSep Finset.univ fun w : Fin 32 => zPts d w f := by
  have h := pointsTo_biUnion (Ix := HIx 1) (Val := Elt F) (Name := ℕ) (U := UU) (Lvl := ℕ) (ℓ := zoLoc d) (q := fullShare) (f := f)
    (Finset.univ : Finset (Fin 6 × Fin 32)) (fun x => zSeg x.2 x.1) (fun x _ y _ h => zSeg_disjoint x y h)
  rw [zSeg_cover, bigSep_univ_prod, bigSep_univ_eq_bigSepL [0, 1, 2, 3, 4, 5] (by decide) (by decide)] at h
  refine h.trans ?_
  simp only [bigSep_sep']
  rfl

/-! ## The pieces of a flat vector -/

theorem vMid_disjoint (w w' : Fin 32) (h : w ≠ w') : Disjoint (vMid w) (vMid w') := by
  have : w.val ≠ w'.val := fun e => h (Fin.ext e)
  exact seg_disjoint (by omega)

theorem mem_vEnd {w : Fin 32} {j : S65536.Idx} : j ∈ vEnd w ↔
    (w.val < 12 ∧ 904 * w.val ≤ (j 0).val ∧ (j 0).val < 904 * w.val + 904)
      ∨ (12 ≤ w.val ∧ w.val < 16 ∧ 60000 + 1384 * (w.val - 12) ≤ (j 0).val ∧ (j 0).val < 60000 + 1384 * (w.val - 12) + 1384) := by
  unfold vEnd
  split_ifs with h1 h2
  · rw [mem_seg]; omega
  · rw [mem_seg]; omega
  · simp only [Finset.notMem_empty, false_iff]; omega

theorem vEnd_disjoint (w w' : Fin 32) (h : w ≠ w') : Disjoint (vEnd w) (vEnd w') := by
  have : w.val ≠ w'.val := fun e => h (Fin.ext e)
  refine Finset.disjoint_left.mpr fun j h1 h2 => ?_
  rw [mem_vEnd] at h1 h2
  omega

theorem vMid_vEnd_disjoint : Disjoint ((Finset.univ : Finset (Fin 32)).biUnion vMid) ((Finset.univ : Finset (Fin 32)).biUnion vEnd) := by
  refine Finset.disjoint_left.mpr fun j h1 h2 => ?_
  obtain ⟨w, -, h1⟩ := Finset.mem_biUnion.mp h1
  obtain ⟨w', -, h2⟩ := Finset.mem_biUnion.mp h2
  rw [mem_seg] at h1
  rw [mem_vEnd] at h2
  have := w.isLt
  omega

theorem v_cover : (Finset.univ : Finset (Fin 32)).biUnion vMid ∪ (Finset.univ : Finset (Fin 32)).biUnion vEnd = Finset.univ := by
  refine Finset.eq_univ_of_forall fun j => Finset.mem_union.mpr ?_
  have hj : (j 0).val < 65536 := flat_lt j
  by_cases h0 : (j 0).val < 10848
  · exact .inr (Finset.mem_biUnion.mpr ⟨⟨(j 0).val / 904, by omega⟩, Finset.mem_univ _, mem_vEnd.mpr (by dsimp only; omega)⟩)
  by_cases h1 : 60000 ≤ (j 0).val
  · exact .inr (Finset.mem_biUnion.mpr ⟨⟨((j 0).val - 60000) / 1384 + 12, by omega⟩, Finset.mem_univ _, mem_vEnd.mpr (by dsimp only; omega)⟩)
  · exact .inl (Finset.mem_biUnion.mpr ⟨⟨((j 0).val - 10848) / 1536, by omega⟩, Finset.mem_univ _, mem_seg.mpr (by dsimp only; omega)⟩)

/-- An array whole, where two families of pieces together cover it and no two pieces meet, is those pieces. -/
theorem pieces_two {ℓ : Loc nD τ sig} (A B : Fin 32 → Finset (Idx ℓ)) (f : Buf (Elt F) ℓ)
    (hA : ∀ w w', w ≠ w' → Disjoint (A w) (A w')) (hB : ∀ w w', w ≠ w' → Disjoint (B w) (B w'))
    (hAB : Disjoint ((Finset.univ : Finset (Fin 32)).biUnion A) ((Finset.univ : Finset (Fin 32)).biUnion B))
    (hU : (Finset.univ : Finset (Fin 32)).biUnion A ∪ (Finset.univ : Finset (Fin 32)).biUnion B = Finset.univ) :
    (ℓ ↦{fullShare} f : sProp 𝕄)
      = iprop((bigSep Finset.univ fun w : Fin 32 => ℓ ↦[A w]{fullShare} f) ∗ bigSep Finset.univ fun w : Fin 32 => ℓ ↦[B w]{fullShare} f) := by
  have hu : (ℓ ↦[(Finset.univ : Finset (Fin 32)).biUnion A ∪ (Finset.univ : Finset (Fin 32)).biUnion B]{fullShare} f : sProp 𝕄) ⊣⊢ _ := pointsTo_union hAB
  have he := BI.equiv_iff.mp ⟨hu.1, hu.2⟩
  rw [hU, pointsTo_biUnion _ A (fun w _ w' _ h => hA w w' h), pointsTo_biUnion _ B (fun w _ w' _ h => hB w w' h)] at he
  exact he

theorem t_pieces (d : Dev nD) (f : VB F) : (toLoc d ↦{fullShare} f : sProp 𝕄)
    = iprop((bigSep Finset.univ fun w : Fin 32 => toLoc d ↦[vMid w]{fullShare} f) ∗ bigSep Finset.univ fun w : Fin 32 => toLoc d ↦[vEnd w]{fullShare} f) :=
  pieces_two (ℓ := toLoc d) vMid vEnd f vMid_disjoint vEnd_disjoint vMid_vEnd_disjoint v_cover
theorem e_pieces (d : Dev nD) (f : VB F) : (eoLoc d ↦{fullShare} f : sProp 𝕄)
    = iprop((bigSep Finset.univ fun w : Fin 32 => eoLoc d ↦[vMid w]{fullShare} f) ∗ bigSep Finset.univ fun w : Fin 32 => eoLoc d ↦[vEnd w]{fullShare} f) :=
  pieces_two (ℓ := eoLoc d) vMid vEnd f vMid_disjoint vEnd_disjoint vMid_vEnd_disjoint v_cover
theorem b_pieces (d : Dev nD) (f : VB F) : (boLoc d ↦{fullShare} f : sProp 𝕄)
    = iprop((bigSep Finset.univ fun w : Fin 32 => boLoc d ↦[vMid w]{fullShare} f) ∗ bigSep Finset.univ fun w : Fin 32 => boLoc d ↦[vEnd w]{fullShare} f) :=
  pieces_two (ℓ := boLoc d) vMid vEnd f vMid_disjoint vEnd_disjoint vMid_vEnd_disjoint v_cover

/-! ## What the call takes and gives back -/

/-- An array whole is its tiles' shares of it. -/
theorem shares {ℓ : Loc nD τ sig} (f : Buf (Elt F) ℓ) :
    (ℓ ↦{fullShare} f : sProp 𝕄) = bigSep Finset.univ fun w : Fin 32 => ℓ ↦{shareOf w} f :=
  ShareLeaves.pointsTo_leaves Finset.univ f 5 fullShare

/-- The eight arrays read, whole, are the tiles' shares of them. -/
theorem src_shares (d : Dev nD) (a : Data F) :
    (srcPts d a fullShare : sProp 𝕄) = bigSep Finset.univ fun w : Fin 32 => srcPts d a (shareOf w) := by
  simp only [srcPts, bigSep_sep', ← shares]

/-- The twelve arrays of the call whole: what it reads, and its results at the given contents. -/
abbrev callPts (d : Dev nD) (a : Data F) (fz : ZB F) (ft fe fb : VB F) : sProp 𝕄 :=
  iprop(srcPts d a fullShare ∗ (zoLoc d ↦{fullShare} fz) ∗ (toLoc d ↦{fullShare} ft) ∗ (eoLoc d ↦{fullShare} fe) ∗ (boLoc d ↦{fullShare} fb))

theorem regroup (S Z t t' e e' b b' : sProp 𝕄) :
    iprop(S ∗ Z ∗ (t ∗ t') ∗ (e ∗ e') ∗ (b ∗ b')) = iprop(S ∗ Z ∗ (t ∗ e ∗ b) ∗ (t' ∗ e' ∗ b')) := by
  refine BI.Entails.antisymm
    (show iprop(S ∗ Z ∗ (t ∗ t') ∗ (e ∗ e') ∗ (b ∗ b')) ⊢ iprop(S ∗ Z ∗ (t ∗ e ∗ b) ∗ (t' ∗ e' ∗ b')) from ?_)
    (show iprop(S ∗ Z ∗ (t ∗ e ∗ b) ∗ (t' ∗ e' ∗ b')) ⊢ iprop(S ∗ Z ∗ (t ∗ t') ∗ (e ∗ e') ∗ (b ∗ b')) from ?_)
  · iintro ⟨H1, H2, ⟨H3, H4⟩, ⟨H5, H6⟩, ⟨H7, H8⟩⟩
    isplitl [H1]; · iexact H1
    isplitl [H2]; · iexact H2
    isplitl [H3 H5 H7]
    · isplitl [H3]; · iexact H3
      isplitl [H5]; · iexact H5
      iexact H7
    isplitl [H4]; · iexact H4
    isplitl [H6]; · iexact H6
    iexact H8
  · iintro ⟨H1, H2, ⟨H3, H5, H7⟩, ⟨H4, H6, H8⟩⟩
    isplitl [H1]; · iexact H1
    isplitl [H2]; · iexact H2
    isplitl [H3 H4]
    · isplitl [H3]; · iexact H3
      iexact H4
    isplitl [H5 H6]
    · isplitl [H5]; · iexact H5
      iexact H6
    isplitl [H7]; · iexact H7
    iexact H8

/-- The call's arrays whole are what the tiles hold of them, at any contents of the results. -/
theorem call_tiles (d : Dev nD) (a : Data F) (fz : ZB F) (ft fe fb : VB F) :
    (callPts d a fz ft fe fb : sProp 𝕄) = bigSep Finset.univ fun w : Fin 32 =>
      iprop(srcPts d a (shareOf w) ∗ zPts d w fz ∗ midPts d w ft fe fb ∗ endPts d w ft fe fb) := by
  rw [bigSep_sep' (Φ := fun w : Fin 32 => srcPts d a (shareOf w)), bigSep_sep' (Φ := fun w : Fin 32 => zPts d w fz),
    bigSep_sep' (Φ := fun w : Fin 32 => midPts d w ft fe fb)]
  show iprop(_ ∗ _ ∗ _ ∗ _ ∗ _) = _
  rw [src_shares, z_pieces, t_pieces, e_pieces, b_pieces, regroup]
  simp only [bigSep_sep']

theorem st0_eq [BitOps F] (a : Dev nD → Data F) (d : Dev nD) :
    (bigSep Finset.univ fun c : Fin ((K (F := F)).nCore 0) => (P a).st 0 d c) = callPts d (a d) (a d).zo (a d).tO (a d).eO (a d).bO :=
  (bigSep_tiles (fun w => goPts d (a d) w)).trans (call_tiles d (a d) _ _ _ _).symm

theorem dn0_eq [BitOps F] (a : Dev nD → Data F) (d : Dev nD) :
    (bigSep Finset.univ fun c : Fin ((K (F := F)).nCore 0) => (P a).dn 0 d c) = callPts d (a d) (a d).z (a d).t (a d).e (a d).b :=
  (bigSep_tiles (fun w => tdPts d (a d) w)).trans (call_tiles d (a d) _ _ _ _).symm

end Cert.Proof.Enqueue

end
-- ==== Proof.Launch.lean ====
/-
  The enqueue's launch: the tiles' obligation at the SparseCore call, @main on the TensorCore — the four host operations
  that prepare what the call reads, the call, the four that make the results of what it leaves — and the program's run.
-/
module

public import proofs.«01_k».proof.Proof.Tile
public import proofs.«01_k».proof.Proof.Deal
public import Idealize.ShloMosaic.Lib.Pipeline.FrameTail

@[expose] public section

noncomputable section

namespace Cert.Proof.Enqueue

open Cert.Kernel Cert.Kernel.Gen

open Idealize.ShloMosaic
open Idealize.ShloMosaic.StableHlo (held held_sub_split held_congr wp_hlo_within after)
open Idealize.ShloMosaic.Pipeline (ucRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Run

variable [BitOps F]

/-! ## The tiles' obligation -/

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__enqueue_body (coordsV c s)
          (Memref.whole main_v0_scv) (Memref.isWhole_whole _) (Memref.whole main_arg1_scv) (Memref.isWhole_whole _)
          (Memref.whole main_arg2_scv) (Memref.isWhole_whole _) (Memref.whole main_v2_scv) (Memref.isWhole_whole _)
          (Memref.whole main_v1_scv) (Memref.isWhole_whole _) (Memref.whole main_arg5_scv) (Memref.isWhole_whole _)
          (Memref.whole main_arg6_scv) (Memref.isWhole_whole _) (Memref.whole main_v3_scv) (Memref.isWhole_whole _)
          (Memref.whole main_v4_0_scv) (Memref.isWhole_whole _) (Memref.whole main_v4_1_scv) (Memref.isWhole_whole _)
          (Memref.whole main_v4_2_scv) (Memref.isWhole_whole _) (Memref.whole main_v4_3_scv) (Memref.isWhole_whole _)
          (Memref.whole cc0_scratch0) (Memref.isWhole_whole _) (Memref.whole cc0_scratch1) (Memref.isWhole_whole _)
          cc0_scratch2 cc0_scratch3 cc0_scratch4 cc0_scoped0 cc0_scoped1 cc0_scoped2 cc0_scoped3 cc0_scoped4 cc0_scoped5
          cc0_scoped6 cc0_scoped7 cc0_scoped8 cc0_scoped9 cc0_scoped10 cc0_scoped11) ⟨⟩ c s := rfl

omit [BitOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets its part of it: it is one of the tiles of `tile_body`. -/
theorem tileObl (a : Dev nD → Data F) (hF : (K (F := F)).Facts) : (K (F := F)).TileObl (D (F := F)) 𝒱 (P a) v₀ 0 := by
  intro d c i O W hO _ _
  simp only [show (P a).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (a d) hF O W hO).trans (wp_mono frame _ _ fun _ => obl_post)

/-! ## The launch element of the certificate's ghost state -/

def u₀ : UU := (initOf (K (F := F)).hsCells (K (F := F)).hsToks, 1)

omit [BitOps F] in
theorem bigSep_emp' {I : Type} (s : Finset I) : (bigSep s fun _ => iprop(emp)) = (iprop(emp) : sProp 𝕄) := bigSep_emp_const s

theorem hu₀ (a : Dev nD → Data F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P a).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) a).x q thr) = bigSep Finset.univ fun _ => iprop(emp) from
    bigSep_congr fun _ _ => bigSep_univ_of_subsingleton (0 : Fin 1), bigSep_emp']
  iempintro

/-! ## @main's host operations and the contents between them -/

variable (m : (ℓ : Loc nD τ sig) → Buf (Elt F) ℓ) (ρ : Dev nD → PrngReg)

abbrev opZn : HloOp τ sig (Elt F) := StableHlo.reshape main_arg0 main_v0 (rfl : (.f32 : EltTy) = .f32) shapeCasts_S16384x128_S2097152
abbrev opZb : HloOp τ sig (Elt F) := StableHlo.reshape main_arg4 main_v1 (rfl : (.f32 : EltTy) = .f32) shapeCasts_S65536x128_S8388608
abbrev opBn : HloOp τ sig (Elt F) :=
  StableHlo.unary main_arg3 main_v2 (bitcastToFloat .f32 : (⟨S16384, .i32⟩ : BufTy).Contents (Elt F) → (⟨S16384, .f32⟩ : BufTy).Contents (Elt F))
abbrev opBb : HloOp τ sig (Elt F) :=
  StableHlo.unary main_arg7 main_v3 (bitcastToFloat .f32 : (⟨S65536, .i32⟩ : BufTy).Contents (Elt F) → (⟨S65536, .f32⟩ : BufTy).Contents (Elt F))
abbrev opZ : HloOp τ sig (Elt F) := StableHlo.reshape main_v4_0 main_v5 (rfl : (.f32 : EltTy) = .f32) shapeCasts_S8388608_S65536x128
abbrev opB : HloOp τ sig (Elt F) :=
  StableHlo.unary main_v4_3 main_v6 (bitcastToInt : (⟨S65536, .f32⟩ : BufTy).Contents (Elt F) → (⟨S65536, .i32⟩ : BufTy).Contents (Elt F))
abbrev opPtr : HloOp τ sig (Elt F) := StableHlo.nullary main_c (constantI S_ 32 10848#32)
abbrev opCnt : HloOp τ sig (Elt F) := StableHlo.nullary main_c_0 (constantI S_ 32 16384#32)

/-- The arrays at the launch, and as the call finds them. -/
abbrev V0 (d : Dev nD) : Valuation τ sig (Elt F) := fun b => m (d, b)
abbrev V4 (d : Dev nD) : Valuation τ sig (Elt F) := (opBb (F := F)).result ((opBn (F := F)).result ((opZb (F := F)).result ((opZn (F := F)).result (V0 m d))))

/-- A TensorCore's array as the device names it. -/
abbrev rf (b : Ref sig .tc) : DevRef τ sig := Proc.devRef .tc b

/-- What the call reads and what its results' buffers hold before it. -/
def dataOf (d : Dev nD) : Data F where
  zn := V4 m d (rf main_v0)
  tn := V4 m d (rf main_arg1)
  en := V4 m d (rf main_arg2)
  bn := V4 m d (rf main_v2)
  zb := V4 m d (rf main_v1)
  tb := V4 m d (rf main_arg5)
  eb := V4 m d (rf main_arg6)
  bb := V4 m d (rf main_v3)
  zo := V4 m d (rf main_v4_0)
  tO := V4 m d (rf main_v4_1)
  eO := V4 m d (rf main_v4_2)
  bO := V4 m d (rf main_v4_3)

/-- The arrays after the call, and at @main's end. -/
def V5 (d : Dev nD) : Valuation τ sig (Elt F) :=
  Function.update (Function.update (Function.update (Function.update (V4 m d) (rf main_v4_0) (dataOf m d).z)
    (rf main_v4_1) (dataOf m d).t) (rf main_v4_2) (dataOf m d).e) (rf main_v4_3) (dataOf m d).b
abbrev V9 (d : Dev nD) : Valuation τ sig (Elt F) := (opCnt (F := F)).result ((opPtr (F := F)).result ((opB (F := F)).result ((opZ (F := F)).result (V5 m d))))

/-- The call's twelve arrays. -/
abbrev callRefs : Finset (DevRef τ sig) :=
  {rf main_v0, rf main_v1, rf main_arg1, rf main_arg2, rf main_v2, rf main_arg5, rf main_arg6, rf main_v3,
    rf main_v4_0, rf main_v4_1, rf main_v4_2, rf main_v4_3}

omit [BitOps F] in
/-- They are among the TensorCore's arrays. -/
theorem callRefs_sub : callRefs ⊆ ucRefs τ sig := by decide

theorem V5_zo (d : Dev nD) : V5 m d (rf main_v4_0) = (dataOf m d).z := by
  unfold V5
  rw [Function.update_of_ne (by decide), Function.update_of_ne (by decide), Function.update_of_ne (by decide), Function.update_self]
theorem V5_to (d : Dev nD) : V5 m d (rf main_v4_1) = (dataOf m d).t := by
  unfold V5
  rw [Function.update_of_ne (by decide), Function.update_of_ne (by decide), Function.update_self]
theorem V5_eo (d : Dev nD) : V5 m d (rf main_v4_2) = (dataOf m d).e := by
  unfold V5
  rw [Function.update_of_ne (by decide), Function.update_self]
theorem V5_bo (d : Dev nD) : V5 m d (rf main_v4_3) = (dataOf m d).b := by
  unfold V5
  rw [Function.update_self]
/-- Every other array is as the call found it. -/
theorem V5_of_ne (d : Dev nD) (b : DevRef τ sig) (h0 : b ≠ rf main_v4_0) (h1 : b ≠ rf main_v4_1) (h2 : b ≠ rf main_v4_2) (h3 : b ≠ rf main_v4_3) :
    V5 m d b = V4 m d b := by
  unfold V5
  rw [Function.update_of_ne h3, Function.update_of_ne h2, Function.update_of_ne h1, Function.update_of_ne h0]

omit [BitOps F] in
/-- The call's arrays held are each held. -/
theorem held_call (d : Dev nD) (W : Valuation τ sig (Elt F)) :
    (held (T d) callRefs W : sProp 𝕄)
      = iprop((znLoc d ↦{fullShare} W (rf main_v0)) ∗ (zbLoc d ↦{fullShare} W (rf main_v1)) ∗ (tnLoc d ↦{fullShare} W (rf main_arg1))
        ∗ (enLoc d ↦{fullShare} W (rf main_arg2)) ∗ (bnLoc d ↦{fullShare} W (rf main_v2)) ∗ (tbLoc d ↦{fullShare} W (rf main_arg5))
        ∗ (ebLoc d ↦{fullShare} W (rf main_arg6)) ∗ (bbLoc d ↦{fullShare} W (rf main_v3))
        ∗ (zoLoc d ↦{fullShare} W (rf main_v4_0)) ∗ (toLoc d ↦{fullShare} W (rf main_v4_1)) ∗ (eoLoc d ↦{fullShare} W (rf main_v4_2))
        ∗ boLoc d ↦{fullShare} W (rf main_v4_3)) := by
  unfold held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The TensorCore's arrays as the call finds them: what it takes, and the rest. -/
theorem held_before (d : Dev nD) :
    (held (T d) (ucRefs τ sig) (V4 m d) : sProp 𝕄)
      ⊢ iprop(callPts d (dataOf m d) (dataOf m d).zo (dataOf m d).tO (dataOf m d).eO (dataOf m d).bO
        ∗ held (T d) (ucRefs τ sig \ callRefs) (V4 m d)) := by
  rw [held_sub_split (T d) callRefs_sub, held_call]
  iintro ⟨⟨H1, H2, H3, H4, H5, H6, H7, H8, H9, H10, H11, H12⟩, Hr⟩
  isplitr [Hr]
  · isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    iexact H12
  iexact Hr

/-- What the call gives back and that rest are the TensorCore's arrays after it. -/
theorem held_after (d : Dev nD) :
    iprop(callPts d (dataOf m d) (dataOf m d).z (dataOf m d).t (dataOf m d).e (dataOf m d).b
        ∗ held (T d) (ucRefs τ sig \ callRefs) (V4 m d))
      ⊢ (held (T d) (ucRefs τ sig) (V5 m d) : sProp 𝕄) := by
  have hr : (held (T d) (ucRefs τ sig \ callRefs) (V5 m d) : sProp 𝕄) = held (T d) (ucRefs τ sig \ callRefs) (V4 m d) :=
    held_congr (T d) fun b hb => by
      have hn := (Finset.mem_sdiff.mp hb).2
      refine V5_of_ne m d b ?_ ?_ ?_ ?_ <;> (rintro rfl; exact hn (by decide))
  rw [held_sub_split (T d) callRefs_sub, held_call, hr, V5_zo, V5_to, V5_eo, V5_bo,
    V5_of_ne m d (rf main_v0) (by decide) (by decide) (by decide) (by decide), V5_of_ne m d (rf main_v1) (by decide) (by decide) (by decide) (by decide),
    V5_of_ne m d (rf main_arg1) (by decide) (by decide) (by decide) (by decide), V5_of_ne m d (rf main_arg2) (by decide) (by decide) (by decide) (by decide),
    V5_of_ne m d (rf main_v2) (by decide) (by decide) (by decide) (by decide), V5_of_ne m d (rf main_arg5) (by decide) (by decide) (by decide) (by decide),
    V5_of_ne m d (rf main_arg6) (by decide) (by decide) (by decide) (by decide), V5_of_ne m d (rf main_v3) (by decide) (by decide) (by decide) (by decide)]
  iintro ⟨⟨⟨H1, H2, H3, H4, H5, H6, H7, H8⟩, H9, H10, H11, H12⟩, Hr⟩
  isplitr [Hr]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hr

/-! ## @main on the TensorCore -/

/-- What @main ends with: the TensorCore's arrays at their last contents. -/
abbrev FIN (d : Dev nD) : sProp 𝕄 := held (T d) (ucRefs τ sig) (V9 m d)

/-- @main on device `d`'s TensorCore: four host operations, the call, four more, over the TensorCore's arrays held whole. -/
theorem hmain (κ : GSem nD τ sig → ℕ) (d : Dev nD) :
    iprop((K (F := F)).ctx EH (P (dataOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from
    Pipeline.unscopedBufs_held d (V0 m d)]
  simp only [main, wp_bind, wp_pure]
  iintro ⟨#Hctx, Hst, ⟨Hb, Hheld, Hts, -⟩, -⟩
  iapply (wp_hlo_within 𝒱 (SparseCore.T d) none Set.univ (op := opZn) (S := ucRefs τ sig)
    (show ({rf main_arg0, rf main_v0} : Finset (DevRef τ sig)) ⊆ ucRefs τ sig by decide) (V := V0 m d)) $$ [Hb Hheld]
  · isplitl [Hb] <;> iassumption
  iintro ⟨Hb, Hheld⟩
  rw [wp_ret]; imodintro
  iapply (wp_hlo_within 𝒱 (SparseCore.T d) none Set.univ (op := opZb) (S := ucRefs τ sig)
    (show ({rf main_arg4, rf main_v1} : Finset (DevRef τ sig)) ⊆ ucRefs τ sig by decide)) $$ [Hb Hheld]
  · isplitl [Hb] <;> iassumption
  iintro ⟨Hb, Hheld⟩
  rw [wp_ret]; imodintro
  iapply (wp_hlo_within 𝒱 (SparseCore.T d) none Set.univ (op := opBn) (S := ucRefs τ sig)
    (show ({rf main_arg3, rf main_v2} : Finset (DevRef τ sig)) ⊆ ucRefs τ sig by decide)) $$ [Hb Hheld]
  · isplitl [Hb] <;> iassumption
  iintro ⟨Hb, Hheld⟩
  rw [wp_ret]; imodintro
  iapply (wp_hlo_within 𝒱 (SparseCore.T d) none Set.univ (op := opBb) (S := ucRefs τ sig)
    (show ({rf main_arg7, rf main_v3} : Finset (DevRef τ sig)) ⊆ ucRefs τ sig by decide)) $$ [Hb Hheld]
  · isplitl [Hb] <;> iassumption
  iintro ⟨Hb, Hheld⟩
  rw [wp_ret]; imodintro
  ihave Hh := (held_before m d) $$ Hheld
  icases Hh with ⟨Hcall, Hrest⟩
  iapply ((K (F := F)).wp_run (D (F := F)) 𝒱 (EH := EH) (P := P (dataOf m)) κ d 0) $$ [Hst Hcall Hb Hrest Hts]
  isplitr; · iexact Hctx
  isplitl [Hst]; · iexact Hst
  isplitl [Hcall]
  · rw [st0_eq]; iexact Hcall
  iintro ⟨Hst, Hdn⟩
  ihave Hcall := (Entails.of_eq (dn0_eq (dataOf m) d)) $$ Hdn
  ihave Hheld := (held_after m d) $$ [Hcall Hrest]
  · isplitl [Hcall] <;> iassumption
  iapply (wp_hlo_within 𝒱 (SparseCore.T d) none Set.univ (op := opZ) (S := ucRefs τ sig)
    (show ({rf main_v4_0, rf main_v5} : Finset (DevRef τ sig)) ⊆ ucRefs τ sig by decide)) $$ [Hb Hheld]
  · isplitl [Hb] <;> iassumption
  iintro ⟨Hb, Hheld⟩
  rw [wp_ret]; imodintro
  iapply (wp_hlo_within 𝒱 (SparseCore.T d) none Set.univ (op := opB) (S := ucRefs τ sig)
    (show ({rf main_v4_3, rf main_v6} : Finset (DevRef τ sig)) ⊆ ucRefs τ sig by decide)) $$ [Hb Hheld]
  · isplitl [Hb] <;> iassumption
  iintro ⟨Hb, Hheld⟩
  rw [wp_ret]; imodintro
  iapply (wp_hlo_within 𝒱 (SparseCore.T d) none Set.univ (op := opPtr) (S := ucRefs τ sig)
    (show ({rf main_c} : Finset (DevRef τ sig)) ⊆ ucRefs τ sig by decide)) $$ [Hb Hheld]
  · isplitl [Hb] <;> iassumption
  iintro ⟨Hb, Hheld⟩
  rw [wp_ret]; imodintro
  iapply (wp_hlo_within 𝒱 (SparseCore.T d) none Set.univ (op := opCnt) (S := ucRefs τ sig)
    (show ({rf main_c_0} : Finset (DevRef τ sig)) ⊆ ucRefs τ sig by decide)) $$ [Hb Hheld]
  · isplitl [Hb] <;> iassumption
  iintro ⟨Hb, Hheld⟩
  rw [wp_ret]; imodintro; imodintro
  isplitl [Hst]; · iexact Hst
  isplitr [Hb Hts]; · iexact Hheld
  isplitl [Hb] <;> iassumption

/-- Every array of device `d` the TensorCore can name is at its last contents. -/
def fq (d : Dev nD) (s' : Phys nD τ sig (Elt F)) : Prop := ∀ b ∈ ucRefs τ sig, s'.mem.mem (d, b) = V9 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-! ## The program's run -/

/-- Every array the TensorCore can name at its last contents, and every semaphore at zero. -/
def QC : PUnit × MemSt nD τ sig (Elt F) → Prop := fun r =>
  (∀ (d : Dev nD) (b : Ref sig .tc), b.isScoped = false → r.2.mem ((d.tc : Thread nD τ).loc b) = V9 m d (rf b)) ∧ r.2.sem = fun _ => 0

/-- From any memory with zero counters the program terminates, with the TensorCore's arrays at `V9` and the counters at
    zero. -/
theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (dataOf m)) (A := ∅) facts v₀
    (fun q hq => match q with | 0 => nomatch hq)
    (fun q _ => match q with | 0 => tileObl (dataOf m) facts)
    (fun q _ => match q with | 0 => SparseCore.Cfg.VecSplit.of_plain (vecSplit (dataOf m)))
    m ρ main (fun _ => iprop(emp)) (FIN m) (u₀ (F := F)) (sep_elim_left.trans (hu₀ (dataOf m))) (hmain m ρ) (fq m) (hfin m) (QC m)
    (fun _ h hz => ⟨fun d b hb => h d (rf b) (Pipeline.devRef_mem_ucRefs hb), hz⟩)

end Run

end Cert.Proof.Enqueue

end
-- ==== Proof.Results.lean ====
/-
  What the arrays hold at @main's end, as terms of the launch contents of the eight arguments: the arguments themselves, and the
  six results. Over any float values but for the last vector, which is carried through the call as floats of the same
  bits: at bit patterns that changes nothing.
-/
module

public import proofs.«01_k».proof.Proof.Launch

@[expose] public section

noncomputable section

namespace Cert.Proof.Enqueue

open Cert.Kernel Cert.Kernel.Gen

open Idealize.ShloMosaic
open Idealize.ShloMosaic.StableHlo (nullary_result nullary_result_ne unary_result unary_result_ne reshape_result reshape_result_ne)

section AnyFloats

variable {F : FTy → Type} [BitOps F] (m : (ℓ : Loc nD τ sig) → Buf (Elt F) ℓ) (d : Dev nD)

/-- An array that the first four host operations do not write is, at the call, as at the launch. -/
theorem V4_kept (r : Ref sig .tc) (h0 : r ≠ main_v0) (h1 : r ≠ main_v1) (h2 : r ≠ main_v2) (h3 : r ≠ main_v3) : V4 m d (rf r) = m (d, rf r) := by
  unfold V4
  rw [unary_result_ne _ _ _ _ _ _ h3, unary_result_ne _ _ _ _ _ _ h2, reshape_result_ne _ _ _ _ _ _ _ h1, reshape_result_ne _ _ _ _ _ _ _ h0]

/-- An array that neither the call nor the last four operations write is, at the end, as at the call. -/
theorem V9_kept (r : Ref sig .tc) (h0 : rf r ≠ rf main_v4_0) (h1 : rf r ≠ rf main_v4_1) (h2 : rf r ≠ rf main_v4_2) (h3 : rf r ≠ rf main_v4_3)
    (h5 : r ≠ main_v5) (h6 : r ≠ main_v6) (h7 : r ≠ main_c) (h8 : r ≠ main_c_0) : V9 m d (rf r) = V4 m d (rf r) := by
  unfold V9
  rw [nullary_result_ne _ _ _ _ h8, nullary_result_ne _ _ _ _ h7, unary_result_ne _ _ _ _ _ _ h6, reshape_result_ne _ _ _ _ _ _ _ h5,
    V5_of_ne m d _ h0 h1 h2 h3]

/-- The arguments end as they began. -/
theorem V9_arg0 : V9 m d (rf main_arg0) = m (d, rf main_arg0) :=
  (V9_kept m d _ (by decide) (by decide) (by decide) (by decide) (by decide) (by decide) (by decide) (by decide)).trans
    (V4_kept m d _ (by decide) (by decide) (by decide) (by decide))
theorem V9_arg1 : V9 m d (rf main_arg1) = m (d, rf main_arg1) :=
  (V9_kept m d _ (by decide) (by decide) (by decide) (by decide) (by decide) (by decide) (by decide) (by decide)).trans
    (V4_kept m d _ (by decide) (by decide) (by decide) (by decide))
theorem V9_arg2 : V9 m d (rf main_arg2) = m (d, rf main_arg2) :=
  (V9_kept m d _ (by decide) (by decide) (by decide) (by decide) (by decide) (by decide) (by decide) (by decide)).trans
    (V4_kept m d _ (by decide) (by decide) (by decide) (by decide))
theorem V9_arg3 : V9 m d (rf main_arg3) = m (d, rf main_arg3) :=
  (V9_kept m d _ (by decide) (by decide) (by decide) (by decide) (by decide) (by decide) (by decide) (by decide)).trans
    (V4_kept m d _ (by decide) (by decide) (by decide) (by decide))
theorem V9_arg4 : V9 m d (rf main_arg4) = m (d, rf main_arg4) :=
  (V9_kept m d _ (by decide) (by decide) (by decide) (by decide) (by decide) (by decide) (by decide) (by decide)).trans
    (V4_kept m d _ (by decide) (by decide) (by decide) (by decide))
theorem V9_arg5 : V9 m d (rf main_arg5) = m (d, rf main_arg5) :=
  (V9_kept m d _ (by decide) (by decide) (by decide) (by decide) (by decide) (by decide) (by decide) (by decide)).trans
    (V4_kept m d _ (by decide) (by decide) (by decide) (by decide))
theorem V9_arg6 : V9 m d (rf main_arg6) = m (d, rf main_arg6) :=
  (V9_kept m d _ (by decide) (by decide) (by decide) (by decide) (by decide) (by decide) (by decide) (by decide)).trans
    (V4_kept m d _ (by decide) (by decide) (by decide) (by decide))
theorem V9_arg7 : V9 m d (rf main_arg7) = m (d, rf main_arg7) :=
  (V9_kept m d _ (by decide) (by decide) (by decide) (by decide) (by decide) (by decide) (by decide) (by decide)).trans
    (V4_kept m d _ (by decide) (by decide) (by decide) (by decide))

/-! ## What the call reads -/

/-- The flat new rows are the first argument, reshaped. -/
theorem data_zn : (dataOf m d).zn = (shapeCast S2097152 (m (d, rf main_arg0) : S16384x128.Idx → F .f32) shapeCasts_S16384x128_S2097152 : ZN F) := by
  show V4 m d (rf main_v0) = _
  unfold V4
  rw [unary_result_ne _ _ _ _ _ _ (by decide), unary_result_ne _ _ _ _ _ _ (by decide), reshape_result_ne _ _ _ _ _ _ _ (by decide), reshape_result]
  rfl

/-- The flat queue of rows is the fifth, reshaped. -/
theorem data_zb : (dataOf m d).zb = (shapeCast S8388608 (m (d, rf main_arg4) : S65536x128.Idx → F .f32) shapeCasts_S65536x128_S8388608 : ZB F) := by
  show V4 m d (rf main_v1) = _
  unfold V4
  rw [unary_result_ne _ _ _ _ _ _ (by decide), unary_result_ne _ _ _ _ _ _ (by decide), reshape_result, reshape_result_ne _ _ _ _ _ _ _ (by decide)]
  rfl

theorem data_tn : (dataOf m d).tn = (m (d, rf main_arg1) : VN F) := V4_kept m d main_arg1 (by decide) (by decide) (by decide) (by decide)
theorem data_en : (dataOf m d).en = (m (d, rf main_arg2) : VN F) := V4_kept m d main_arg2 (by decide) (by decide) (by decide) (by decide)
theorem data_tb : (dataOf m d).tb = (m (d, rf main_arg5) : VB F) := V4_kept m d main_arg5 (by decide) (by decide) (by decide) (by decide)
theorem data_eb : (dataOf m d).eb = (m (d, rf main_arg6) : VB F) := V4_kept m d main_arg6 (by decide) (by decide) (by decide) (by decide)

/-- The last vector of the new block and of the queue, as floats of the same bits. -/
theorem data_bn : (dataOf m d).bn = (bitcastToFloat .f32 (m (d, rf main_arg3) : S16384.Idx → BitVec 32) : VN F) := by
  show V4 m d (rf main_v2) = _
  unfold V4
  rw [unary_result_ne _ _ _ _ _ _ (by decide), unary_result, reshape_result_ne _ _ _ _ _ _ _ (by decide), reshape_result_ne _ _ _ _ _ _ _ (by decide)]
theorem data_bb : (dataOf m d).bb = (bitcastToFloat .f32 (m (d, rf main_arg7) : S65536.Idx → BitVec 32) : VB F) := by
  show V4 m d (rf main_v3) = _
  unfold V4
  rw [unary_result, unary_result_ne _ _ _ _ _ _ (by decide), reshape_result_ne _ _ _ _ _ _ _ (by decide), reshape_result_ne _ _ _ _ _ _ _ (by decide)]

/-! ## The results -/

/-- The matrix of rows. -/
theorem V9_z : (V9 m d (rf main_v5) : S65536x128.Idx → F .f32)
    = shapeCast S65536x128 (zRing (shapeCast S2097152 (m (d, rf main_arg0) : S16384x128.Idx → F .f32) shapeCasts_S16384x128_S2097152 : ZN F)
        (shapeCast S8388608 (m (d, rf main_arg4) : S65536x128.Idx → F .f32) shapeCasts_S65536x128_S8388608 : ZB F)) shapeCasts_S8388608_S65536x128 := by
  unfold V9
  rw [nullary_result_ne _ _ _ _ (by decide), nullary_result_ne _ _ _ _ (by decide), unary_result_ne _ _ _ _ _ _ (by decide), reshape_result, V5_zo]
  unfold Data.z
  rw [data_zn, data_zb]
  rfl

/-- The two vectors of floats. -/
theorem V9_t : (V9 m d (rf main_v4_1) : VB F) = vRing (m (d, rf main_arg1) : VN F) (m (d, rf main_arg5) : VB F) := by
  unfold V9
  rw [nullary_result_ne _ _ _ _ (by decide), nullary_result_ne _ _ _ _ (by decide), unary_result_ne _ _ _ _ _ _ (by decide),
    reshape_result_ne _ _ _ _ _ _ _ (by decide), V5_to]
  unfold Data.t
  rw [data_tn, data_tb]
theorem V9_e : (V9 m d (rf main_v4_2) : VB F) = vRing (m (d, rf main_arg2) : VN F) (m (d, rf main_arg6) : VB F) := by
  unfold V9
  rw [nullary_result_ne _ _ _ _ (by decide), nullary_result_ne _ _ _ _ (by decide), unary_result_ne _ _ _ _ _ _ (by decide),
    reshape_result_ne _ _ _ _ _ _ _ (by decide), V5_eo]
  unfold Data.e
  rw [data_en, data_eb]

/-- The vector of words, as the words of the floats that went through the call. -/
theorem V9_b : (V9 m d (rf main_v6) : S65536.Idx → BitVec 32)
    = bitcastToInt (vRing (bitcastToFloat .f32 (m (d, rf main_arg3) : S16384.Idx → BitVec 32) : VN F) (bitcastToFloat .f32 (m (d, rf main_arg7) : S65536.Idx → BitVec 32) : VB F)) := by
  unfold V9
  rw [nullary_result_ne _ _ _ _ (by decide), nullary_result_ne _ _ _ _ (by decide), unary_result, reshape_result_ne _ _ _ _ _ _ _ (by decide), V5_bo]
  unfold Data.b
  rw [data_bn, data_bb]

/-- The next free place, and the number of entries written. -/
theorem V9_ptr : V9 m d (rf main_c) = (constantI S_ 32 10848#32 : IVec S_ 32) := by
  unfold V9
  rw [nullary_result_ne _ _ _ _ (by decide), nullary_result]
theorem V9_cnt : V9 m d (rf main_c_0) = (constantI S_ 32 16384#32 : IVec S_ 32) := by
  unfold V9
  rw [nullary_result]

end AnyFloats

/-- At bit patterns a word read as a float and back is the word, so the vector of words is the queue after the enqueue. -/
theorem V9_b_bits (m : (ℓ : Loc nD τ sig) → Buf (Elt Bits) ℓ) (d : Dev nD) : (V9 m d (rf main_v6) : S65536.Idx → BitVec 32)
    = ring (n := 16384) (N := 65536) 10848 60000 5536 (m (d, rf main_arg3) : S16384.Idx → BitVec 32) (m (d, rf main_arg7) : S65536.Idx → BitVec 32) :=
  (V9_b m d).trans rfl

end Cert.Proof.Enqueue

end
-- ==== Proof.Slots.lean ====
/-
  The reference's results. It writes the block's entry `i` at place `(60000 + i) mod 65536` of the queue, one scatter for each of the
  queue's four arrays. The places are distinct, so each scatter is the queue after the enqueue (`ring`): of a vector
  (`scatter_vec`) and of the matrix of rows (`scatter_mat`), read through its flat form.
-/
module

public import proofs.«01_k».proof.Proof.Values
public import proofs.«01_k».proof.Proof.Gen.Reference.Run
public import Idealize.ShloMosaic.Lib.Routing.Words
public import Idealize.ShloMosaic.Lib.Routing.OpsSet
public import Idealize.ShloMosaic.Lib.Routing.OpsPair

@[expose] public section

noncomputable section

namespace Cert.Proof.Enqueue

open Idealize.ShloMosaic Idealize.ShloMosaic.Routing Idealize.ShloMosaic.ValueIdx
open Idealize.SL.Sem

/-! ## Where an update lands -/

/-- The scatter of `n` scalars into a vector, one index word each: scalar `i` lands at `x` exactly when its word, read signed, is `x`. -/
theorem lands_entry {N n : ℕ} (d : ScatterDims (shape1 N) (shape2 n 1) (shape1 n)) (hi : d.insertedWindowDims = [0])
    (ho : d.scatterDimsToOperandDims = [0]) (hv : d.indexVectorDim = 1) (idx : IVec (shape2 n 1) 32) (i : Fin n) (x : Fin N) :
    d.resultIdx? (ix1 i) idx = some (ix1 x) ↔ (idx (ix2 i (0 : Fin 1))).toInt = (x.val : ℤ) := by
  have hm : (0 : Fin 1) ∈ d.scatterDimsToOperandDims := by rw [ho]; exact List.mem_singleton.2 rfl
  have hw : d.window (ix1 i) 0 = 0 := by
    unfold ScatterDims.window
    rw [dif_neg fun h => (of_decide_eq_true (List.mem_filter.1 h).2) (by rw [hi]; exact List.mem_singleton.2 rfl)]
  have hs : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hv]; exact Nat.zero_ne_one)]
      unfold ScatterDims.siCoord
      simp only [Fin.val_cast]
      have e : ∀ X : Fin 1, (ix1 i X).val = i.val := fun X => by
        obtain rfl : X = 0 := Subsingleton.elim _ _
        rfl
      exact e _
    | ⟨1, _⟩ =>
      unfold ScatterDims.siIdx
      rw [dif_pos (by rw [hv])]
      show List.idxOf (0 : Fin 1) d.scatterDimsToOperandDims = 0
      rw [ho]; simp
  have hst : d.start (ix1 i) idx 0 = (idx (ix2 i (0 : Fin 1))).toInt := by
    unfold ScatterDims.start
    rw [dif_pos hm, hs]
  rw [resultIdx?_ix1, hst, hw]
  omega

/-- The scatter of `n` rows into a matrix, one index word each: element `c'` of row `i` lands at `(r, c)` exactly when the row's word,
    read signed, is `r` and `c'` is `c`. -/
theorem lands_row {N n C : ℕ} (d : ScatterDims (shape2 N C) (shape2 n 1) (shape2 n C)) (hu : d.updateWindowDims = [1]) (hi : d.insertedWindowDims = [0])
    (ho : d.scatterDimsToOperandDims = [0]) (hv : d.indexVectorDim = 1) (idx : IVec (shape2 n 1) 32) (i : Fin n) (c' : Fin C) (r : Fin N) (c : Fin C) :
    d.resultIdx? (ix2 i c') idx = some (ix2 r c) ↔ (idx (ix2 i (0 : Fin 1))).toInt = (r.val : ℤ) ∧ c' = c := by
  have hm : (0 : Fin 2) ∈ d.scatterDimsToOperandDims := by rw [ho]; exact List.mem_singleton.2 rfl
  have hk : d.sKept = [1] := by
    show (shape2 N C).kept d.insertedWindowDims = _
    rw [hi]; rfl
  have hus : d.uScatter = [0] := by
    show (shape2 n C).kept d.updateWindowDims = _
    rw [hu]; rfl
  have pickList : ∀ (l : List (Fin 2)) (p : ℕ) (h : p < l.length) (q : Fin 2), l = [q] → l[p]'h = q := by
    intro l p h q e
    subst e
    obtain rfl : p = 0 := by simpa using h
    rfl
  have hw0 : d.window (ix2 i c') 0 = 0 := by
    unfold ScatterDims.window
    rw [dif_neg fun h => (of_decide_eq_true (List.mem_filter.1 h).2) (by rw [hi]; exact List.mem_singleton.2 rfl)]
  have hw1 : d.window (ix2 i c') 1 = c'.val := by
    unfold ScatterDims.window
    rw [dif_pos (by rw [hk]; exact List.mem_singleton.2 rfl)]
    simp only [Fin.val_cast]
    rw [pickList _ _ _ 1 hu]
  have hs : d.siIdx (ix2 i c') ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hv]; exact Nat.zero_ne_one)]
      unfold ScatterDims.siCoord
      simp only [Fin.val_cast]
      rw [pickList _ _ _ 0 hus]
    | ⟨1, _⟩ =>
      unfold ScatterDims.siIdx
      rw [dif_pos (by rw [hv])]
      show List.idxOf (0 : Fin 2) d.scatterDimsToOperandDims = 0
      rw [ho]; simp
  have hst0 : d.start (ix2 i c') idx 0 = (idx (ix2 i (0 : Fin 1))).toInt := by
    unfold ScatterDims.start
    rw [dif_pos hm, hs]
  have hst1 : d.start (ix2 i c') idx 1 = 0 := by
    unfold ScatterDims.start
    rw [dif_neg fun h => by rw [ho] at h; exact absurd (List.mem_singleton.1 h) (by decide : (1 : Fin 2) ≠ 0)]
  rw [Fin.ext_iff, resultIdx?_ix2, hst0, hw0, hst1, hw1]
  omega

/-! ## The scatters -/

/-- The index words of the enqueue: entry `i` goes to place `(60000 + i) mod 65536`. -/
def Places (idx : IVec (shape2 16384 1) 32) : Prop := ∀ i : Fin 16384, (idx (ix2 i (0 : Fin 1))).toInt = (((60000 + i.val) % 65536 : ℕ) : ℤ)

/-- A vector with the new entries scattered to their places is the queue after the enqueue. -/
theorem scatter_vec {α : Type} (d : ScatterDims (shape1 65536) (shape2 16384 1) (shape1 16384)) (hi : d.insertedWindowDims = [0])
    (ho : d.scatterDimsToOperandDims = [0]) (hv : d.indexVectorDim = 1) {idx : IVec (shape2 16384 1) 32} (hp : Places idx)
    (old : (shape1 65536).Idx → α) (new : (shape1 16384).Idx → α) :
    Host.scatter d (fun _ b => b) old idx new = ring (n := 16384) (N := 65536) 10848 60000 5536 new old := by
  funext j
  obtain ⟨x, rfl⟩ : ∃ x, j = ix1 x := ⟨j 0, eq_ix1 j⟩
  have hx := x.isLt
  have land : ∀ i : Fin 16384, d.resultIdx? (ix1 i) idx = some (ix1 x) ↔ (60000 + i.val) % 65536 = x.val := fun i => by
    rw [lands_entry d hi ho hv, hp i]; omega
  have hit : ∀ i : Fin 16384, (60000 + i.val) % 65536 = x.val → Host.scatter d (fun _ b => b) old idx new (ix1 x) = new (ix1 i) := fun i h =>
    scatter_set_hit d old idx new _ _ (fun k hk => by
      obtain ⟨i', rfl⟩ : ∃ i', k = ix1 i' := ⟨k 0, eq_ix1 k⟩
      have h' := (land i').1 hk
      have h1 := i.isLt
      have h2 := i'.isLt
      rw [show i' = i from Fin.ext (by omega)]) (ix1 i) ((land i).2 h)
  have h0 : ((ix1 x : (Flat 65536).Idx) 0).val = x.val := rfl
  unfold ring
  rw [h0]
  by_cases h1 : x.val < 10848
  · rw [if_pos h1, hit ⟨x.val + 5536, by omega⟩ (by show (60000 + (x.val + 5536)) % 65536 = _; omega), pick_of_eq new _ (ix1 ⟨x.val + 5536, by omega⟩) rfl]
  · rw [if_neg h1]
    by_cases h2 : 60000 ≤ x.val
    · rw [if_pos h2, hit ⟨x.val - 60000, by omega⟩ (by show (60000 + (x.val - 60000)) % 65536 = _; omega), pick_of_eq new _ (ix1 ⟨x.val - 60000, by omega⟩) rfl]
    · rw [if_neg h2]
      refine scatter_set_miss d old idx new _ fun k hk => ?_
      obtain ⟨i', rfl⟩ : ∃ i', k = ix1 i' := ⟨k 0, eq_ix1 k⟩
      have h' := (land i').1 hk
      have h3 := i'.isLt
      omega

/-- The matrix of rows with the new rows scattered to their places is, row after row, the flat queue after the enqueue of the flat
    new rows. -/
theorem scatter_mat {α : Type} (d : ScatterDims (shape2 65536 128) (shape2 16384 1) (shape2 16384 128)) (hu : d.updateWindowDims = [1])
    (hi : d.insertedWindowDims = [0]) (ho : d.scatterDimsToOperandDims = [0]) (hv : d.indexVectorDim = 1) {idx : IVec (shape2 16384 1) 32}
    (hp : Places idx) (old : (shape2 65536 128).Idx → α) (new : (shape2 16384 128).Idx → α)
    (hn : (shape2 16384 128).ShapeCasts (Flat 2097152)) (hb : (shape2 65536 128).ShapeCasts (Flat 8388608)) (hr : (Flat 8388608).ShapeCasts (shape2 65536 128)) :
    Host.scatter d (fun _ b => b) old idx new
      = shapeCast (shape2 65536 128) (ring (n := 2097152) (N := 8388608) 1388544 7680000 708608 (shapeCast (Flat 2097152) new hn) (shapeCast (Flat 8388608) old hb)) hr := by
  funext j
  obtain ⟨r, c, rfl⟩ : ∃ r c, j = ix2 r c := ⟨j 0, j 1, eq_ix2 j⟩
  have hr' := r.isLt
  have hc' := c.isLt
  have land : ∀ (i : Fin 16384) (c' : Fin 128), d.resultIdx? (ix2 i c') idx = some (ix2 r c) ↔ (60000 + i.val) % 65536 = r.val ∧ c' = c := fun i c' => by
    rw [lands_row d hu hi ho hv, hp i]
    exact and_congr_left fun _ => Nat.cast_inj
  have hit : ∀ i : Fin 16384, (60000 + i.val) % 65536 = r.val → Host.scatter d (fun _ b => b) old idx new (ix2 r c) = new (ix2 i c) := fun i h =>
    scatter_set_hit d old idx new _ _ (fun k hk => by
      obtain ⟨i', c', rfl⟩ : ∃ i' c', k = ix2 i' c' := ⟨k 0, k 1, eq_ix2 k⟩
      obtain ⟨h', rfl⟩ := (land i' c').1 hk
      have h1 := i.isLt
      have h2 := i'.isLt
      rw [show i' = i from Fin.ext (by omega)]) (ix2 i c) ((land i c).2 ⟨h, rfl⟩)
  have flatNew : ∀ (i : Fin 16384) (h : i.val * 128 + c.val < 2097152), shapeCast (Flat 2097152) new hn (ix (i.val * 128 + c.val) h) = new (ix2 i c) := fun i h =>
    shapeCast_apply new hn _ _ (by rw [Shape.rowMajor_val_two, Shape.rowMajor_val_one]; rfl)
  have flatOld : shapeCast (Flat 8388608) old hb (ix (r.val * 128 + c.val) (by omega)) = old (ix2 r c) :=
    shapeCast_apply old hb _ _ (by rw [Shape.rowMajor_val_two, Shape.rowMajor_val_one]; rfl)
  rw [shapeCast_apply _ hr (ix2 r c) (ix (r.val * 128 + c.val) (by omega)) (by rw [Shape.rowMajor_val_two, Shape.rowMajor_val_one]; rfl)]
  have h0 : ((ix (r.val * 128 + c.val) (by omega) : (Flat 8388608).Idx) 0).val = r.val * 128 + c.val := rfl
  unfold ring
  rw [h0]
  by_cases h1 : r.val < 10848
  · rw [if_pos (by omega), hit ⟨r.val + 5536, by omega⟩ (by show (60000 + (r.val + 5536)) % 65536 = _; omega),
      pick_of_eq _ _ (ix ((r.val + 5536) * 128 + c.val) (by omega)) (show (r.val + 5536) * 128 + c.val = _ by omega)]
    exact (flatNew ⟨r.val + 5536, by omega⟩ _).symm
  · rw [if_neg (by omega)]
    by_cases h2 : 60000 ≤ r.val
    · rw [if_pos (by omega), hit ⟨r.val - 60000, by omega⟩ (by show (60000 + (r.val - 60000)) % 65536 = _; omega),
        pick_of_eq _ _ (ix ((r.val - 60000) * 128 + c.val) (by omega)) (show (r.val - 60000) * 128 + c.val = _ by omega)]
      exact (flatNew ⟨r.val - 60000, by omega⟩ _).symm
    · rw [if_neg (by omega), flatOld]
      refine scatter_set_miss d old idx new _ fun k hk => ?_
      obtain ⟨i', c', rfl⟩ : ∃ i' c', k = ix2 i' c' := ⟨k 0, k 1, eq_ix2 k⟩
      have h' := ((land i' c').1 hk).1
      have h3 := i'.isLt
      omega

/-! ## The reference's results -/

section Reference

open Cert.Reference Cert.Reference.Gen Cert.Reference.Value

/-- The reference's places: 60000 plus the entry's number, its remainder by 65536. -/
def place : IVec S16384 32 :=
  pyRem bcast_S_S16384 (addi (broadcastInDim S16384 ![] bcast_S_S16384 (constantI S_ 32 60000#32)) (iotaInDim S16384 32 0)) (id (constantI S_ 32 65536#32))

/-- The same as index words, a negative one counted from the queue's end. -/
def placeWords : IVec S16384x1 32 :=
  broadcastInDim S16384x1 ![0] bcast_S16384_S16384x1_0
    (select (cmpi .slt place (broadcastInDim S16384 ![] bcast_S_S16384 (constantI S_ 32 0#32)))
      (addi place (broadcastInDim S16384 ![] bcast_S_S16384 (constantI S_ 32 65536#32))) place)

/-- Entry `i`'s place is `(60000 + i) mod 65536`. -/
theorem place_apply (i : Fin 16384) : place (ix1 i) = BitVec.ofNat 32 ((60000 + i.val) % 65536) :=
  pyRem_ap bcast_S_S16384 _ _ (ix1 i)
    (show (60000#32 : BitVec 32) + BitVec.ofNat 32 i.val = BitVec.ofNat 32 (60000 + i.val) from (BitVec.ofNat_add 60000 i.val).symm)
    (show (65536#32 : BitVec 32) = BitVec.ofNat 32 65536 from rfl) (by have := i.isLt; omega) (by decide) (by decide)

theorem places : Places placeWords := fun i => by
  have h : placeWords (ix2 i (0 : Fin 1))
      = Scalar.select (IntOp.cmpi .slt (place (ix1 i)) 0#32) (place (ix1 i) + 65536#32) (place (ix1 i)) := by
    have e : ∀ f : IVec S16384 32, broadcastInDim S16384x1 ![0] bcast_S16384_S16384x1_0 f (ix2 i (0 : Fin 1)) = f (ix1 i) := fun f =>
      congrArg f (funext fun | 0 => rfl)
    exact e _
  have hm : (60000 + i.val) % 65536 < 2 ^ 31 := by omega
  rw [h, place_apply, wrap_of_lt _ _ (by rw [BitVec.toNat_ofNat]; omega), StableHlo.Predicate.toInt_ofNat_small _ hm]

variable {F : FTy → Type} [FloatOps F] (m : (ℓ : Loc nD τ sig) → Buf (Elt F) ℓ) (c : Dev nD)

theorem ref_z (hn : S16384x128.ShapeCasts (Flat 2097152)) (hb : S65536x128.ShapeCasts (Flat 8388608)) (hr : (Flat 8388608).ShapeCasts S65536x128) :
    (res_out0 m c : S65536x128.Idx → F .f32)
      = shapeCast S65536x128 (ring (n := 2097152) (N := 8388608) 1388544 7680000 708608
          (shapeCast (Flat 2097152) (m ((c.tc : Thread nD τ).loc main_arg0) : S16384x128.Idx → F .f32) hn)
          (shapeCast (Flat 8388608) (m ((c.tc : Thread nD τ).loc main_arg4) : S65536x128.Idx → F .f32) hb)) hr := by
  unfold res_out0 res_main_v10
  exact scatter_mat scatter_S65536x128_S16384x1_S16384x128_1_0_0_1 rfl rfl rfl rfl places _ _ hn hb hr

theorem ref_t : (res_out1 m c : S65536.Idx → F .f32)
    = ring (n := 16384) (N := 65536) 10848 60000 5536 (m ((c.tc : Thread nD τ).loc main_arg1) : S16384.Idx → F .f32)
        (m ((c.tc : Thread nD τ).loc main_arg5) : S65536.Idx → F .f32) := by
  unfold res_out1 res_main_v17
  exact scatter_vec scatter_S65536_S16384x1_S16384_n_0_0_1 rfl rfl rfl places _ _

theorem ref_e : (res_out2 m c : S65536.Idx → F .f32)
    = ring (n := 16384) (N := 65536) 10848 60000 5536 (m ((c.tc : Thread nD τ).loc main_arg2) : S16384.Idx → F .f32)
        (m ((c.tc : Thread nD τ).loc main_arg6) : S65536.Idx → F .f32) := by
  unfold res_out2 res_main_v24
  exact scatter_vec scatter_S65536_S16384x1_S16384_n_0_0_1 rfl rfl rfl places _ _

theorem ref_b : (res_out3 m c : S65536.Idx → BitVec 32)
    = ring (n := 16384) (N := 65536) 10848 60000 5536 (m ((c.tc : Thread nD τ).loc main_arg3) : S16384.Idx → BitVec 32)
        (m ((c.tc : Thread nD τ).loc main_arg7) : S65536.Idx → BitVec 32) := by
  unfold res_out3 res_main_v31
  exact scatter_vec scatter_S65536_S16384x1_S16384_n_0_0_1 rfl rfl rfl places _ _

end Reference

end Cert.Proof.Enqueue

end
-- ==== Proof.lean ====
/-
  The certificate of the enqueue: from any memory the program of the SparseCore kernel and the reference both run to the end
  with the arguments unchanged and every semaphore counter at zero, and from memories that agree on the arguments their six results
  are equal bit for bit. The program's run is Proof/Launch.lean, what it leaves Proof/Results.lean; the reference's results
  are read in Proof/Slots.lean. Both are the same queue after the enqueue (Proof/Values.lean `ring`).
-/
module

public import proofs.«01_k».proof.Defs
public import proofs.«01_k».proof.Proof.Results
public import proofs.«01_k».proof.Proof.Slots
public import Idealize.ShloMosaic.Lib.Quiescent

@[expose] public section

noncomputable section

namespace Cert.Proof

open Idealize.ShloMosaic Idealize.SL.Sem
open Cert.Proof.Enqueue

/-- The program with the kernel: it ends, its arguments unchanged and its counters at zero. -/
theorem frame_kernel : quiescent_Kernel (hKernel := Cert.Kernel.Gen.facts) := fun m g _ =>
  (θ_run (Cert.Kernel.defs (F := Bits)) (Cert.Kernel.threads (F := Bits)) _).mono (fun r h => ⟨fun c =>
    ⟨(h.1 c _ rfl).trans (V9_arg0 m c), (h.1 c _ rfl).trans (V9_arg1 m c), (h.1 c _ rfl).trans (V9_arg2 m c), (h.1 c _ rfl).trans (V9_arg3 m c),
      (h.1 c _ rfl).trans (V9_arg4 m c), (h.1 c _ rfl).trans (V9_arg5 m c), (h.1 c _ rfl).trans (V9_arg6 m c), (h.1 c _ rfl).trans (V9_arg7 m c)⟩, h.2⟩)
    (run_main m g)

/-- The reference likewise: it has no semaphores. -/
theorem frame_reference : quiescent_Reference (hReference := Cert.Reference.Gen.facts) := fun m g _ =>
  (θ_run (Cert.Reference.defs (F := Bits)) (onTc (τ := Cert.Reference.τ) (Cert.Reference.main (F := Bits))) _).mono
    (fun r h => ⟨fun c => (h c).2.2.2.2.2.2, sem_eq_zero_of_no_sems (by decide) r.2⟩) (Cert.Reference.Value.run (F := Bits) m g)

/-- From memories that agree on the arguments the program and the reference end with the same six results. -/
theorem same_results : bitexact_Kernel_Reference (hKernel := Cert.Kernel.Gen.facts) (hReference := Cert.Reference.Gen.facts) := fun m g m' g' _ hm => by
  refine ⟨fun c => V9 m c (rf Cert.Kernel.main_v5), fun c => V9 m c (rf Cert.Kernel.main_v4_1), fun c => V9 m c (rf Cert.Kernel.main_v4_2),
    fun c => V9 m c (rf Cert.Kernel.main_v6), fun c => V9 m c (rf Cert.Kernel.main_c), fun c => V9 m c (rf Cert.Kernel.main_c_0), ?_, ?_⟩
  · exact (θ_run (Cert.Kernel.defs (F := Bits)) (Cert.Kernel.threads (F := Bits)) _).mono (fun r h c =>
      ⟨h.1 c _ rfl, h.1 c _ rfl, h.1 c _ rfl, h.1 c _ rfl, h.1 c _ rfl, h.1 c _ rfl,
        (h.1 c _ rfl).trans (V9_arg0 m c), (h.1 c _ rfl).trans (V9_arg1 m c), (h.1 c _ rfl).trans (V9_arg2 m c), (h.1 c _ rfl).trans (V9_arg3 m c),
        (h.1 c _ rfl).trans (V9_arg4 m c), (h.1 c _ rfl).trans (V9_arg5 m c), (h.1 c _ rfl).trans (V9_arg6 m c), (h.1 c _ rfl).trans (V9_arg7 m c)⟩)
      (run_main m g)
  · refine (θ_run (Cert.Reference.defs (F := Bits)) (onTc (τ := Cert.Reference.τ) (Cert.Reference.main (F := Bits))) _).mono (fun r h c => ?_)
      (Cert.Reference.Value.run (F := Bits) m' g')
    obtain ⟨hz, ht, he, hb, hp, hc, hargs⟩ := h c
    obtain ⟨a0, a1, a2, a3, a4, a5, a6, a7⟩ := hm c
    refine ⟨hz.trans ?_, ht.trans ?_, he.trans ?_, hb.trans ?_, hp.trans (V9_ptr m c).symm, hc.trans (V9_cnt m c).symm, hargs⟩
    · refine (ref_z m' c Cert.Kernel.Gen.facts.shapeCasts_S16384x128_S2097152 Cert.Kernel.Gen.facts.shapeCasts_S65536x128_S8388608
        Cert.Kernel.Gen.facts.shapeCasts_S8388608_S65536x128).trans ?_
      rw [a0, a4]
      exact (V9_z m c).symm
    · refine (ref_t m' c).trans ?_
      rw [a1, a5]
      exact (V9_t m c).symm
    · refine (ref_e m' c).trans ?_
      rw [a2, a6]
      exact (V9_e m c).symm
    · refine (ref_b m' c).trans ?_
      rw [a3, a7]
      exact (V9_b_bits m c).symm

theorem claim : Cert.Claim := ⟨Cert.Kernel.Gen.facts, Cert.Reference.Gen.facts, frame_kernel, frame_reference, same_results⟩

end Cert.Proof

end
